-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gains5 [hPre_finite_gains5 : Cert.Pre_finite_gains5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gains5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite_gains5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gains5 [hPre_finite_gains5 : Cert.Pre_finite_gains5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gains5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite_gains5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_gains5 [hKernel5Ideal : Cert.Kernel5Ideal.Facts] [hPre_finite_gains5 : Cert.Pre_finite_gains5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gains5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_gains5 [hReference5Ideal : Cert.Reference5Ideal.Facts] [hPre_finite_gains5 : Cert.Pre_finite_gains5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gains5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite_gains5 [hKernel5Ideal : Cert.Kernel5Ideal.Facts] [hReference5Ideal : Cert.Reference5Ideal.Facts] [hPre_finite_gains5 : Cert.Pre_finite_gains5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gains5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_gains : Cert.Pre_finite_gains.Facts) (hPre_finite_gains5 : Cert.Pre_finite_gains5.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_gains5 (hKernel5Ideal := hKernel5Ideal) (hPre_finite_gains5 := hPre_finite_gains5)
    ∧ quiescent_Reference5Ideal (hReference5Ideal := hReference5Ideal)
    ∧ quiescent_Reference5Ideal_pre_finite_gains5 (hReference5Ideal := hReference5Ideal) (hPre_finite_gains5 := hPre_finite_gains5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_gains5 (hKernel5Ideal := hKernel5Ideal) (hReference5Ideal := hReference5Ideal) (hPre_finite_gains5 := hPre_finite_gains5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_gains.lean ====
abbrev S8x2048x7168 : Shape := ⟨3, ![8, 2048, 7168]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S8x2048x7168 .bf16) (main_arg1 : FVec F S64 .f32) (main_arg2 : FVec F S64 .f32) : IVec S64 1 × IVec S64 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg2
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  (main_v2, main_v5)
-- ==== Pre_finite_gains5.lean ====
abbrev S8x2048x1024 : Shape := ⟨3, ![8, 2048, 1024]⟩
abbrev S1024 : Shape := ⟨1, ![1024]⟩
abbrev S1024x1024 : Shape := ⟨2, ![1024, 1024]⟩
abbrev S8x256x2048 : Shape := ⟨3, ![8, 256, 2048]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S8x2048x1024 .f32) (main_arg1 : FVec F S1024 .f32) (main_arg2 : FVec F S1024x1024 .f32) (main_arg3 : FVec F S8x256x2048 .bf16) (main_arg4 : FVec F S256 .f32) (main_arg5 : FVec F S256 .f32) (main_arg6 : FVec F S1024x1024 .f32) : IVec S256 1 × IVec S256 1 :=
  let main_v0 : FVec F S256 .f32 := Host.absf main_arg4
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S256 .f32 := Host.absf main_arg5
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  (main_v2, main_v5)
-- ==== Kernel.lean ====
abbrev S8x2048x7168 : Shape := ⟨3, ![8, 2048, 7168]⟩
abbrev S64 : Shape := ⟨1, ![64]⟩
abbrev S32 : Shape := ⟨1, ![32]⟩
abbrev S32x64 : Shape := ⟨2, ![32, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x16 : Shape := ⟨3, ![1, 1, 16]⟩
abbrev S2048x2x16 : Shape := ⟨3, ![2048, 2, 16]⟩
abbrev S2048x2x32 : Shape := ⟨3, ![2048, 2, 32]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S1x2048x2x64 : Shape := ⟨4, ![1, 2048, 2, 64]⟩
abbrev S2048x128 : Shape := ⟨2, ![2048, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S512x1 : Shape := ⟨2, ![512, 1]⟩
abbrev S512x512 : Shape := ⟨2, ![512, 512]⟩
abbrev S128x1 : Shape := ⟨2, ![128, 1]⟩
abbrev S128x128 : Shape := ⟨2, ![128, 128]⟩
abbrev S8x2048x512 : Shape := ⟨3, ![8, 2048, 512]⟩
abbrev S1x1024x512 : Shape := ⟨3, ![1, 1024, 512]⟩
abbrev S1x2048x128 : Shape := ⟨3, ![1, 2048, 128]⟩
abbrev S1024x512 : Shape := ⟨2, ![1024, 512]⟩
abbrev S2048x256 : Shape := ⟨2, ![2048, 256]⟩
abbrev S1024x64 : Shape := ⟨2, ![1024, 64]⟩
abbrev S1024x2048 : Shape := ⟨2, ![1024, 2048]⟩
abbrev S1024 : Shape := ⟨1, ![1024]⟩
abbrev S1024x1 : Shape := ⟨2, ![1024, 1]⟩
abbrev S1024x128 : Shape := ⟨2, ![1024, 128]⟩

abbrev nBuf : Space → Nat
  | .hbm => 124
  | .vmem => 23
  | .smem => 0
  | _ => 0

abbrev bufTy : (tb : Table) → Fin (tcTables nBuf tb) → BufTy
  | .hbm, ⟨0, _⟩ => ⟨S8x2048x7168, .bf16⟩
  | .hbm, ⟨1, _⟩ => ⟨S64, .f32⟩
  | .hbm, ⟨2, _⟩ => ⟨S64, .f32⟩
  | .hbm, ⟨3, _⟩ => ⟨S32, .i32⟩
  | .hbm, ⟨4, _⟩ => ⟨S64, .i32⟩
  | .hbm, ⟨5, _⟩ => ⟨S32x64, .i32⟩
  | .hbm, ⟨6, _⟩ => ⟨S32x64, .i32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S2048x1, .i32⟩
  | .hbm, ⟨19, _⟩ => ⟨S2048x2, .i32⟩
  | .hbm, ⟨20, _⟩ => ⟨S2048x2, .f32⟩
  | .hbm, ⟨21, _⟩ => ⟨S2048x2x1, .f32⟩
  | .hbm, ⟨22, _⟩ => ⟨S1x1x16, .f32⟩
  | .hbm, ⟨23, _⟩ => ⟨S2048x2x16, .f32⟩
  | .hbm, ⟨24, _⟩ => ⟨S2048x2x16, .f32⟩
  | .hbm, ⟨25, _⟩ => ⟨S2048x2x16, .f32⟩
  | .hbm, ⟨26, _⟩ => ⟨S2048x2x16, .f32⟩
  | .hbm, ⟨27, _⟩ => ⟨S2048x2x16, .f32⟩
  | .hbm, ⟨28, _⟩ => ⟨S_, .f32⟩
  | .hbm, ⟨29, _⟩ => ⟨S2048x2x16, .f32⟩
  | .hbm, ⟨30, _⟩ => ⟨S2048x2x32, .f32⟩
  | .hbm, ⟨31, _⟩ => ⟨S2048x64, .f32⟩
  | .hbm, ⟨32, _⟩ => ⟨S2048x2x16, .f32⟩
  | .hbm, ⟨33, _⟩ => ⟨S2048x2x32, .f32⟩
  | .hbm, ⟨34, _⟩ => ⟨S2048x64, .f32⟩
  | .hbm, ⟨35, _⟩ => ⟨S2048x2x32, .f32⟩
  | .hbm, ⟨36, _⟩ => ⟨S2048x64, .f32⟩
  | .hbm, ⟨37, _⟩ => ⟨S1x2048x1x64, .f32⟩
  | .hbm, ⟨38, _⟩ => ⟨S1x2048x8x64, .f32⟩
  | .hbm, ⟨39, _⟩ => ⟨S2048x512, .f32⟩
  | .hbm, ⟨40, _⟩ => ⟨S1x2048x1x64, .f32⟩
  | .hbm, ⟨41, _⟩ => ⟨S1x2048x8x64, .f32⟩
  | .hbm, ⟨42, _⟩ => ⟨S2048x512, .f32⟩
  | .hbm, ⟨43, _⟩ => ⟨S1x2048x1x64, .f32⟩
  | .hbm, ⟨44, _⟩ => ⟨S1x2048x8x64, .f32⟩
  | .hbm, ⟨45, _⟩ => ⟨S2048x512, .f32⟩
  | .hbm, ⟨46, _⟩ => ⟨S1x2048x1x64, .f32⟩
  | .hbm, ⟨47, _⟩ => ⟨S1x2048x2x64, .f32⟩
  | .hbm, ⟨48, _⟩ => ⟨S2048x128, .f32⟩
  | .hbm, ⟨49, _⟩ => ⟨S1x2048x1x64, .f32⟩
  | .hbm, ⟨50, _⟩ => ⟨S1x2048x2x64, .f32⟩
  | .hbm, ⟨51, _⟩ => ⟨S2048x128, .f32⟩
  | .hbm, ⟨52, _⟩ => ⟨S1x2048x1x64, .f32⟩
  | .hbm, ⟨53, _⟩ => ⟨S1x2048x2x64, .f32⟩
  | .hbm, ⟨54, _⟩ => ⟨S2048x128, .f32⟩
  | .hbm, ⟨55, _⟩ => ⟨S1x64, .f32⟩
  | .hbm, ⟨56, _⟩ => ⟨S8x64, .f32⟩
  | .hbm, ⟨57, _⟩ => ⟨S512, .f32⟩
  | .hbm, ⟨58, _⟩ => ⟨S1x512, .f32⟩
  | .hbm, ⟨59, _⟩ => ⟨S1x64, .f32⟩
  | .hbm, ⟨60, _⟩ => ⟨S2x64, .f32⟩
  | .hbm, ⟨61, _⟩ => ⟨S128, .f32⟩
  | .hbm, ⟨62, _⟩ => ⟨S1x128, .f32⟩
  | .hbm, ⟨63, _⟩ => ⟨S512, .i32⟩
  | .hbm, ⟨64, _⟩ => ⟨S_, .i32⟩
  | .hbm, ⟨65, _⟩ => ⟨S_, .i32⟩
  | .hbm, ⟨66, _⟩ => ⟨S512, .i32⟩
  | .hbm, ⟨67, _⟩ => ⟨S512, .i32⟩
  | .hbm, ⟨68, _⟩ => ⟨S512, .i32⟩
  | .hbm, ⟨69, _⟩ => ⟨S_, .i32⟩
  | .hbm, ⟨70, _⟩ => ⟨S512, .i32⟩
  | .hbm, ⟨71, _⟩ => ⟨S512, .i1⟩
  | .hbm, ⟨72, _⟩ => ⟨S512, .i32⟩
  | .hbm, ⟨73, _⟩ => ⟨S512, .i32⟩
  | .hbm, ⟨74, _⟩ => ⟨S_, .i32⟩
  | .hbm, ⟨75, _⟩ => ⟨S512, .i32⟩
  | .hbm, ⟨76, _⟩ => ⟨S512, .i1⟩
  | .hbm, ⟨77, _⟩ => ⟨S512, .i1⟩
  | .hbm, ⟨78, _⟩ => ⟨S_, .i32⟩
  | .hbm, ⟨79, _⟩ => ⟨S512, .i32⟩
  | .hbm, ⟨80, _⟩ => ⟨S512, .i32⟩
  | .hbm, ⟨81, _⟩ => ⟨S512, .i32⟩
  | .hbm, ⟨82, _⟩ => ⟨S512x1, .i32⟩
  | .hbm, ⟨83, _⟩ => ⟨S1x512, .i32⟩
  | .hbm, ⟨84, _⟩ => ⟨S512x512, .i32⟩
  | .hbm, ⟨85, _⟩ => ⟨S512x512, .i32⟩
  | .hbm, ⟨86, _⟩ => ⟨S512x512, .i1⟩
  | .hbm, ⟨87, _⟩ => ⟨S_, .f32⟩
  | .hbm, ⟨88, _⟩ => ⟨S_, .f32⟩
  | .hbm, ⟨89, _⟩ => ⟨S512x512, .f32⟩
  | .hbm, ⟨90, _⟩ => ⟨S512x512, .f32⟩
  | .hbm, ⟨91, _⟩ => ⟨S512x512, .f32⟩
  | .hbm, ⟨92, _⟩ => ⟨S512x512, .bf16⟩
  | .hbm, ⟨93, _⟩ => ⟨S128, .i32⟩
  | .hbm, ⟨94, _⟩ => ⟨S_, .i32⟩
  | .hbm, ⟨95, _⟩ => ⟨S_, .i32⟩
  | .hbm, ⟨96, _⟩ => ⟨S128, .i32⟩
  | .hbm, ⟨97, _⟩ => ⟨S128, .i32⟩
  | .hbm, ⟨98, _⟩ => ⟨S128, .i32⟩
  | .hbm, ⟨99, _⟩ => ⟨S_, .i32⟩
  | .hbm, ⟨100, _⟩ => ⟨S128, .i32⟩
  | .hbm, ⟨101, _⟩ => ⟨S128, .i1⟩
  | .hbm, ⟨102, _⟩ => ⟨S128, .i32⟩
  | .hbm, ⟨103, _⟩ => ⟨S128, .i32⟩
  | .hbm, ⟨104, _⟩ => ⟨S_, .i32⟩
  | .hbm, ⟨105, _⟩ => ⟨S128, .i32⟩
  | .hbm, ⟨106, _⟩ => ⟨S128, .i1⟩
  | .hbm, ⟨107, _⟩ => ⟨S128, .i1⟩
  | .hbm, ⟨108, _⟩ => ⟨S_, .i32⟩
  | .hbm, ⟨109, _⟩ => ⟨S128, .i32⟩
  | .hbm, ⟨110, _⟩ => ⟨S128, .i32⟩
  | .hbm, ⟨111, _⟩ => ⟨S128, .i32⟩
  | .hbm, ⟨112, _⟩ => ⟨S128x1, .i32⟩
  | .hbm, ⟨113, _⟩ => ⟨S1x128, .i32⟩
  | .hbm, ⟨114, _⟩ => ⟨S128x128, .i32⟩
  | .hbm, ⟨115, _⟩ => ⟨S128x128, .i32⟩
  | .hbm, ⟨116, _⟩ => ⟨S128x128, .i1⟩
  | .hbm, ⟨117, _⟩ => ⟨S_, .f32⟩
  | .hbm, ⟨118, _⟩ => ⟨S_, .f32⟩
  | .hbm, ⟨119, _⟩ => ⟨S128x128, .f32⟩
  | .hbm, ⟨120, _⟩ => ⟨S128x128, .f32⟩
  | .hbm, ⟨121, _⟩ => ⟨S128x128, .f32⟩
  | .hbm, ⟨122, _⟩ => ⟨S128x128, .bf16⟩
  | .hbm, ⟨123, _⟩ => ⟨S8x2048x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512, .f32⟩
  | .local _ .vmem, ⟨7, _⟩ => ⟨S1x128, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S512x512, .bf16⟩
  | .local _ .vmem, ⟨18, _⟩ => ⟨S128x128, .bf16⟩
  | .local _ .vmem, ⟨19, _⟩ => ⟨S1x1024x512, .bf16⟩
  | .local _ .vmem, ⟨20, _⟩ => ⟨S1x1024x512, .bf16⟩
  | .local _ .vmem, ⟨21, _⟩ => ⟨S2048x128, .bf16⟩
  | .local _ .vmem, ⟨22, _⟩ => ⟨S2048x256, .bf16⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_c : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_c : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_c_0 : Ref sig .tc := ⟨.hbm, 78, rfl⟩
abbrev main_call0_v12 : Ref sig .tc := ⟨.hbm, 79, rfl⟩
abbrev main_call0_v13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_2 : Ref sig .tc := ⟨.hbm, 87, rfl⟩
abbrev main_cst_3 : Ref sig .tc := ⟨.hbm, 88, rfl⟩
abbrev main_call1_v0 : Ref sig .tc := ⟨.hbm, 89, rfl⟩
abbrev main_call1_v1 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_4 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_c : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_0 : Ref sig .tc := ⟨.hbm, 108, rfl⟩
abbrev main_call2_v12 : Ref sig .tc := ⟨.hbm, 109, rfl⟩
abbrev main_call2_v13 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_5 : Ref sig .tc := ⟨.hbm, 117, rfl⟩
abbrev main_cst_6 : Ref sig .tc := ⟨.hbm, 118, rfl⟩
abbrev main_call3_v0 : Ref sig .tc := ⟨.hbm, 119, rfl⟩
abbrev main_call3_v1 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c28_i32 : BitVec 32 := 28#32
  let c0_i32_0 : BitVec 32 := 0#32
  ![arg0.toNat, c0_i32.toNat, c28_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c29_i32 : BitVec 32 := 29#32
  let c0_i32_0 : BitVec 32 := 0#32
  ![arg0.toNat, c0_i32.toNat, c29_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S8x2048x7168 : Shape := ⟨3, ![8, 2048, 7168]⟩
abbrev S64 : Shape := ⟨1, ![64]⟩
abbrev S8x2048x512 : Shape := ⟨3, ![8, 2048, 512]⟩
abbrev S8x2048x128 : Shape := ⟨3, ![8, 2048, 128]⟩
abbrev S32 : Shape := ⟨1, ![32]⟩
abbrev S32x64 : Shape := ⟨2, ![32, 64]⟩
abbrev S16 : Shape := ⟨1, ![16]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x16 : Shape := ⟨3, ![1, 1, 16]⟩
abbrev S2048x2x16 : Shape := ⟨3, ![2048, 2, 16]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x8x2048x64 : Shape := ⟨4, ![8, 8, 2048, 64]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2x2048x64 : Shape := ⟨4, ![8, 2, 2048, 64]⟩
abbrev S8x8x2048x2x2x16 : Shape := ⟨6, ![8, 8, 2048, 2, 2, 16]⟩
abbrev S8x8x2048x2x1x16 : Shape := ⟨6, ![8, 8, 2048, 2, 1, 16]⟩
abbrev S8x8x2048x2x16 : Shape := ⟨5, ![8, 8, 2048, 2, 16]⟩
abbrev S1x1x2048x2x16 : Shape := ⟨5, ![1, 1, 2048, 2, 16]⟩
abbrev S8x2x4x2048x64 : Shape := ⟨5, ![8, 2, 4, 2048, 64]⟩
abbrev S8x2x2048x2x2x16 : Shape := ⟨6, ![8, 2, 2048, 2, 2, 16]⟩
abbrev S8x2x2048x2x1x16 : Shape := ⟨6, ![8, 2, 2048, 2, 1, 16]⟩
abbrev S8x2x2048x2x16 : Shape := ⟨5, ![8, 2, 2048, 2, 16]⟩
abbrev S8x2x4x2048x2048 : Shape := ⟨5, ![8, 2, 4, 2048, 2048]⟩
abbrev S8x2x4x2048 : Shape := ⟨4, ![8, 2, 4, 2048]⟩
abbrev S8x2x4x2048x1 : Shape := ⟨5, ![8, 2, 4, 2048, 1]⟩

abbrev nBuf : Space → Nat
  | .hbm => 140
  | .vmem => 0
  | .smem => 0
  | _ => 0

abbrev hbmTy0_0 (i : Nat) : BufTy := match i % 128 with
  | 0 => ⟨S8x2048x7168, .bf16⟩
  | 1 => ⟨S64, .f32⟩
  | 2 => ⟨S64, .f32⟩
  | 3 => ⟨S8x2048x7168, .f32⟩
  | 4 => ⟨S8x2048x512, .f32⟩
  | 5 => ⟨S8x2048x128, .f32⟩
  | 6 => ⟨S8x2048x128, .f32⟩
  | 7 => ⟨S32, .i32⟩
  | 8 => ⟨S64, .i32⟩
  | 9 => ⟨S32x64, .i32⟩
  | 10 => ⟨S32x64, .i32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S2048, .i32⟩
  | 20 => ⟨S2048, .i32⟩
  | 21 => ⟨S2048x1, .i32⟩
  | 22 => ⟨S2048x1, .i32⟩
  | 23 => ⟨S2048x2, .i32⟩
  | 24 => ⟨S2048x2, .f32⟩
  | 25 => ⟨S2048x2x1, .f32⟩
  | 26 => ⟨S1x1x16, .f32⟩
  | 27 => ⟨S2048x2x16, .f32⟩
  | 28 => ⟨S2048x2x16, .f32⟩
  | 29 => ⟨S2048x2x16, .f32⟩
  | 30 => ⟨S2048x2x16, .f32⟩
  | 31 => ⟨S2048x2x16, .f32⟩
  | 32 => ⟨S8x2048x8x64, .f32⟩
  | 33 => ⟨S8x2048x8x64, .f32⟩
  | 34 => ⟨S_, .f32⟩
  | 35 => ⟨S8x2048x8, .f32⟩
  | 36 => ⟨S8x2048x8x1, .f32⟩
  | 37 => ⟨S_, .f32⟩
  | 38 => ⟨S8x2048x8x1, .f32⟩
  | 39 => ⟨S8x2048x8x1, .f32⟩
  | 40 => ⟨S_, .f32⟩
  | 41 => ⟨S8x2048x8x1, .f32⟩
  | 42 => ⟨S8x2048x8x1, .f32⟩
  | 43 => ⟨S8x2048x8x1, .f32⟩
  | 44 => ⟨S8x2048x8x64, .f32⟩
  | 45 => ⟨S8x2048x8x64, .f32⟩
  | 46 => ⟨S1x1x1x64, .f32⟩
  | 47 => ⟨S8x2048x8x64, .f32⟩
  | 48 => ⟨S8x2048x8x64, .f32⟩
  | 49 => ⟨S8x8x2048x64, .f32⟩
  | 50 => ⟨S8x2048x2x64, .f32⟩
  | 51 => ⟨S8x2048x2x64, .f32⟩
  | 52 => ⟨S_, .f32⟩
  | 53 => ⟨S8x2048x2, .f32⟩
  | 54 => ⟨S8x2048x2x1, .f32⟩
  | 55 => ⟨S_, .f32⟩
  | 56 => ⟨S8x2048x2x1, .f32⟩
  | 57 => ⟨S8x2048x2x1, .f32⟩
  | 58 => ⟨S_, .f32⟩
  | 59 => ⟨S8x2048x2x1, .f32⟩
  | 60 => ⟨S8x2048x2x1, .f32⟩
  | 61 => ⟨S8x2048x2x1, .f32⟩
  | 62 => ⟨S8x2048x2x64, .f32⟩
  | 63 => ⟨S8x2048x2x64, .f32⟩
  | 64 => ⟨S1x1x1x64, .f32⟩
  | 65 => ⟨S8x2048x2x64, .f32⟩
  | 66 => ⟨S8x2048x2x64, .f32⟩
  | 67 => ⟨S8x2x2048x64, .f32⟩
  | 68 => ⟨S8x2048x2x64, .f32⟩
  | 69 => ⟨S8x2x2048x64, .f32⟩
  | 70 => ⟨S8x8x2048x2x2x16, .f32⟩
  | 71 => ⟨S8x8x2048x2x1x16, .f32⟩
  | 72 => ⟨S8x8x2048x2x16, .f32⟩
  | 73 => ⟨S8x8x2048x2x1x16, .f32⟩
  | 74 => ⟨S8x8x2048x2x16, .f32⟩
  | 75 => ⟨S1x1x2048x2x16, .f32⟩
  | 76 => ⟨S8x8x2048x2x16, .f32⟩
  | 77 => ⟨S8x8x2048x2x16, .f32⟩
  | 78 => ⟨S1x1x2048x2x16, .f32⟩
  | 79 => ⟨S8x8x2048x2x16, .f32⟩
  | 80 => ⟨S8x8x2048x2x16, .f32⟩
  | 81 => ⟨S8x8x2048x2x16, .f32⟩
  | 82 => ⟨S1x1x2048x2x16, .f32⟩
  | 83 => ⟨S8x8x2048x2x16, .f32⟩
  | 84 => ⟨S8x8x2048x2x16, .f32⟩
  | 85 => ⟨S1x1x2048x2x16, .f32⟩
  | 86 => ⟨S8x8x2048x2x16, .f32⟩
  | 87 => ⟨S8x8x2048x2x16, .f32⟩
  | 88 => ⟨S8x8x2048x2x16, .f32⟩
  | 89 => ⟨S8x8x2048x2x1x16, .f32⟩
  | 90 => ⟨S8x8x2048x2x1x16, .f32⟩
  | 91 => ⟨S8x8x2048x2x2x16, .f32⟩
  | 92 => ⟨S8x8x2048x64, .f32⟩
  | 93 => ⟨S8x2x4x2048x64, .f32⟩
  | 94 => ⟨S8x2x2048x2x2x16, .f32⟩
  | 95 => ⟨S8x2x2048x2x1x16, .f32⟩
  | 96 => ⟨S8x2x2048x2x16, .f32⟩
  | 97 => ⟨S8x2x2048x2x1x16, .f32⟩
  | 98 => ⟨S8x2x2048x2x16, .f32⟩
  | 99 => ⟨S1x1x2048x2x16, .f32⟩
  | 100 => ⟨S8x2x2048x2x16, .f32⟩
  | 101 => ⟨S8x2x2048x2x16, .f32⟩
  | 102 => ⟨S1x1x2048x2x16, .f32⟩
  | 103 => ⟨S8x2x2048x2x16, .f32⟩
  | 104 => ⟨S8x2x2048x2x16, .f32⟩
  | 105 => ⟨S8x2x2048x2x16, .f32⟩
  | 106 => ⟨S1x1x2048x2x16, .f32⟩
  | 107 => ⟨S8x2x2048x2x16, .f32⟩
  | 108 => ⟨S8x2x2048x2x16, .f32⟩
  | 109 => ⟨S1x1x2048x2x16, .f32⟩
  | 110 => ⟨S8x2x2048x2x16, .f32⟩
  | 111 => ⟨S8x2x2048x2x16, .f32⟩
  | 112 => ⟨S8x2x2048x2x16, .f32⟩
  | 113 => ⟨S8x2x2048x2x1x16, .f32⟩
  | 114 => ⟨S8x2x2048x2x1x16, .f32⟩
  | 115 => ⟨S8x2x2048x2x2x16, .f32⟩
  | 116 => ⟨S8x2x2048x64, .f32⟩
  | 117 => ⟨S8x2x4x2048x2048, .f32⟩
  | 118 => ⟨S_, .f32⟩
  | 119 => ⟨S8x2x4x2048x2048, .f32⟩
  | 120 => ⟨S8x2x4x2048x2048, .f32⟩
  | 121 => ⟨S_, .f32⟩
  | 122 => ⟨S8x2x4x2048, .f32⟩
  | 123 => ⟨S_, .f32⟩
  | 124 => ⟨S8x2x4x2048, .f32⟩
  | 125 => ⟨S8x2x4x2048, .f32⟩
  | 126 => ⟨S8x2x4x2048x1, .f32⟩
  | 127 => ⟨S8x2x4x2048x2048, .f32⟩
  | _ => ⟨S8x2048x7168, .bf16⟩

abbrev hbmTy0_1 (i : Nat) : BufTy := match i % 128 with
  | 0 => ⟨S8x2x4x2048x2048, .f32⟩
  | 1 => ⟨S8x2x4x2048x2048, .f32⟩
  | 2 => ⟨S_, .f32⟩
  | 3 => ⟨S8x2x4x2048, .f32⟩
  | 4 => ⟨S8x2x4x2048x1, .f32⟩
  | 5 => ⟨S8x2x4x2048x2048, .f32⟩
  | 6 => ⟨S8x2x4x2048x2048, .f32⟩
  | 7 => ⟨S8x2x4x2048x64, .f32⟩
  | 8 => ⟨S8x8x2048x64, .f32⟩
  | 9 => ⟨S8x2048x8x64, .f32⟩
  | 10 => ⟨S8x2048x512, .f32⟩
  | 11 => ⟨S8x2048x512, .bf16⟩
  | _ => ⟨S8x2048x7168, .bf16⟩

abbrev hbmTy (i : Nat) : BufTy := match i / 128 with
  | 0 => hbmTy0_0 i
  | 1 => hbmTy0_1 i
  | _ => ⟨S8x2048x7168, .bf16⟩

abbrev bufTy : (tb : Table) → Fin (tcTables nBuf tb) → BufTy
  | .hbm, ⟨i, _⟩ => hbmTy i
  | _, _ => ⟨S8x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_cst_7 : Ref sig .tc := ⟨.hbm, 118, rfl⟩
abbrev main_v107 : Ref sig .tc := ⟨.hbm, 119, rfl⟩
abbrev main_v108 : Ref sig .tc := ⟨.hbm, 120, rfl⟩
abbrev main_cst_8 : Ref sig .tc := ⟨.hbm, 121, rfl⟩
abbrev main_v109 : Ref sig .tc := ⟨.hbm, 122, rfl⟩
abbrev main_cst_9 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_cst_10 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x2048 : Shape := ⟨2, ![1024, 2048]⟩
abbrev S2048x1024 : Shape := ⟨2, ![2048, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S2x1024x6944 : Shape := ⟨3, ![2, 1024, 6944]⟩
abbrev S_ : Shape := ⟨0, ![]⟩
abbrev S2x1024x7168 : Shape := ⟨3, ![2, 1024, 7168]⟩
abbrev S2x1024x512 : Shape := ⟨3, ![2, 1024, 512]⟩
abbrev S2x1024x256 : Shape := ⟨3, ![2, 1024, 256]⟩
abbrev S2x1024x3072 : Shape := ⟨3, ![2, 1024, 3072]⟩
abbrev S2x1024x32 : Shape := ⟨3, ![2, 1024, 32]⟩
abbrev S1x1024 : Shape := ⟨2, ![1, 1024]⟩
abbrev S16384x7168 : Shape := ⟨2, ![16384, 7168]⟩
abbrev S1024x1024 : Shape := ⟨2, ![1024, 1024]⟩
abbrev S1x1024x3584 : Shape := ⟨3, ![1, 1024, 3584]⟩
abbrev S1024x3584 : Shape := ⟨2, ![1024, 3584]⟩
abbrev S1024x1 : Shape := ⟨2, ![1024, 1]⟩

abbrev nBuf : Space → Nat
  | .hbm => 37
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x6944, .f32⟩
  | .hbm, ⟨3, _⟩ => ⟨S_, .bf16⟩
  | .hbm, ⟨4, _⟩ => ⟨S2x1024x7168, .bf16⟩
  | .hbm, ⟨5, _⟩ => ⟨S2x1024x512, .f32⟩
  | .hbm, ⟨6, _⟩ => ⟨S2x1024x512, .bf16⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2x1024x7168, .bf16⟩
  | .hbm, ⟨11, _⟩ => ⟨S2x1024x256, .f32⟩
  | .hbm, ⟨12, _⟩ => ⟨S2x1024x256, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x1024x7168, .bf16⟩
  | .hbm, ⟨17, _⟩ => ⟨S2x1024x3072, .f32⟩
  | .hbm, ⟨18, _⟩ => ⟨S2x1024x3072, .bf16⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x1024x7168, .bf16⟩
  | .hbm, ⟨23, _⟩ => ⟨S2x1024x32, .f32⟩
  | .hbm, ⟨24, _⟩ => ⟨S2x1024x32, .bf16⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S2x1024x7168, .bf16⟩
  | .hbm, ⟨29, _⟩ => ⟨S2x1024x3072, .f32⟩
  | .hbm, ⟨30, _⟩ => ⟨S2x1024x3072, .bf16⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2x1024x7168, .bf16⟩
  | .hbm, ⟨35, _⟩ => ⟨S1x1024, .f32⟩
  | .hbm, ⟨36, _⟩ => ⟨S16384x7168, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x3584, .bf16⟩
  | .local _ .vmem, ⟨4, _⟩ => ⟨S1x1024x3584, .bf16⟩
  | .local _ .vmem, ⟨5, _⟩ => ⟨S1024x3584, .bf16⟩
  | .local _ .vmem, ⟨6, _⟩ => ⟨S1024x3584, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_c_3 : Ref sig .tc := ⟨.hbm, 14, rfl⟩
abbrev main_c_4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_5 : Ref sig .tc := ⟨.hbm, 19, rfl⟩
abbrev main_c_6 : Ref sig .tc := ⟨.hbm, 20, rfl⟩
abbrev main_c_7 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_8 : Ref sig .tc := ⟨.hbm, 25, rfl⟩
abbrev main_c_9 : Ref sig .tc := ⟨.hbm, 26, rfl⟩
abbrev main_c_10 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_11 : Ref sig .tc := ⟨.hbm, 31, rfl⟩
abbrev main_c_12 : Ref sig .tc := ⟨.hbm, 32, rfl⟩
abbrev main_c_13 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x1024 : Shape := ⟨2, ![16384, 1024]⟩
abbrev S1024 : Shape := ⟨1, ![1024]⟩
abbrev S2x1024x6944 : Shape := ⟨3, ![2, 1024, 6944]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x6944 : Shape := ⟨3, ![1, 1024, 6944]⟩
abbrev S1024x6944 : Shape := ⟨2, ![1024, 6944]⟩
abbrev S16384x6944 : Shape := ⟨2, ![16384, 6944]⟩
abbrev S16384x512 : Shape := ⟨2, ![16384, 512]⟩
abbrev S16384x128 : Shape := ⟨2, ![16384, 128]⟩
abbrev S16384x1536 : Shape := ⟨2, ![16384, 1536]⟩
abbrev S16384x256 : Shape := ⟨2, ![16384, 256]⟩
abbrev S16384x32 : Shape := ⟨2, ![16384, 32]⟩
abbrev S16384x3072 : Shape := ⟨2, ![16384, 3072]⟩
abbrev S16384x224 : Shape := ⟨2, ![16384, 224]⟩
abbrev S16384x7168 : Shape := ⟨2, ![16384, 7168]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x6944, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x1024x6944, .f32⟩
  | .hbm, ⟨20, _⟩ => ⟨S1024x6944, .f32⟩
  | .hbm, ⟨21, _⟩ => ⟨S16384x6944, .f32⟩
  | .hbm, ⟨22, _⟩ => ⟨S16384x512, .f32⟩
  | .hbm, ⟨23, _⟩ => ⟨S16384x128, .f32⟩
  | .hbm, ⟨24, _⟩ => ⟨S16384x128, .f32⟩
  | .hbm, ⟨25, _⟩ => ⟨S16384x1536, .f32⟩
  | .hbm, ⟨26, _⟩ => ⟨S16384x256, .f32⟩
  | .hbm, ⟨27, _⟩ => ⟨S16384x256, .f32⟩
  | .hbm, ⟨28, _⟩ => ⟨S16384x512, .f32⟩
  | .hbm, ⟨29, _⟩ => ⟨S16384x512, .f32⟩
  | .hbm, ⟨30, _⟩ => ⟨S16384x32, .f32⟩
  | .hbm, ⟨31, _⟩ => ⟨S16384x3072, .f32⟩
  | .hbm, ⟨32, _⟩ => ⟨S_, .f32⟩
  | .hbm, ⟨33, _⟩ => ⟨S16384x224, .f32⟩
  | .hbm, ⟨34, _⟩ => ⟨S16384x7168, .f32⟩
  | .hbm, ⟨35, _⟩ => ⟨S16384x7168, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel4.lean ====
abbrev S16384x512 : Shape := ⟨2, ![16384, 512]⟩
abbrev S16384x7168 : Shape := ⟨2, ![16384, 7168]⟩
abbrev S16384x1024 : Shape := ⟨2, ![16384, 1024]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 14
  | .vmem => 20
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x7168, .bf16⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x512 : Shape := ⟨2, ![16384, 512]⟩
abbrev S16384x7168 : Shape := ⟨2, ![16384, 7168]⟩
abbrev S16384x1024 : Shape := ⟨2, ![16384, 1024]⟩
abbrev S512x1024 : Shape := ⟨2, ![512, 1024]⟩
abbrev S1024x1024 : Shape := ⟨2, ![1024, 1024]⟩
abbrev S16384x3072 : Shape := ⟨2, ![16384, 3072]⟩
abbrev S16384x3x1024 : Shape := ⟨3, ![16384, 3, 1024]⟩
abbrev S_ : Shape := ⟨0, ![]⟩
abbrev S16384x1x1024 : Shape := ⟨3, ![16384, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x7168, .bf16⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16384x512, .f32⟩
  | .hbm, ⟨10, _⟩ => ⟨S16384x1024, .f32⟩
  | .hbm, ⟨11, _⟩ => ⟨S16384x512, .f32⟩
  | .hbm, ⟨12, _⟩ => ⟨S16384x1024, .f32⟩
  | .hbm, ⟨13, _⟩ => ⟨S16384x512, .f32⟩
  | .hbm, ⟨14, _⟩ => ⟨S16384x1024, .f32⟩
  | .hbm, ⟨15, _⟩ => ⟨S16384x7168, .f32⟩
  | .hbm, ⟨16, _⟩ => ⟨S16384x3072, .f32⟩
  | .hbm, ⟨17, _⟩ => ⟨S16384x3x1024, .f32⟩
  | .hbm, ⟨18, _⟩ => ⟨S16384x3x1024, .f32⟩
  | .hbm, ⟨19, _⟩ => ⟨S16384x3x1024, .f32⟩
  | .hbm, ⟨20, _⟩ => ⟨S_, .f32⟩
  | .hbm, ⟨21, _⟩ => ⟨S16384x3x1024, .f32⟩
  | .hbm, ⟨22, _⟩ => ⟨S16384x3x1024, .f32⟩
  | .hbm, ⟨23, _⟩ => ⟨S_, .f32⟩
  | .hbm, ⟨24, _⟩ => ⟨S16384x3x1024, .f32⟩
  | .hbm, ⟨25, _⟩ => ⟨S16384x3x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x1024 : Shape := ⟨2, ![1024, 1024]⟩
abbrev S8x256x2048 : Shape := ⟨3, ![8, 256, 2048]⟩
abbrev S256 : Shape := ⟨1, ![256]⟩
abbrev S1x1024 : Shape := ⟨2, ![1, 1024]⟩
abbrev S1x256 : Shape := ⟨2, ![1, 256]⟩
abbrev S1x1024x1024 : Shape := ⟨3, ![1, 1024, 1024]⟩
abbrev S1x256x1024 : Shape := ⟨3, ![1, 256, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1024, .f32⟩
  | .hbm, ⟨3, _⟩ => ⟨S8x256x2048, .bf16⟩
  | .hbm, ⟨4, _⟩ => ⟨S256, .f32⟩
  | .hbm, ⟨5, _⟩ => ⟨S256, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x256, .f32⟩
  | .hbm, ⟨11, _⟩ => ⟨S1x256, .f32⟩
  | .hbm, ⟨12, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256, .f32⟩
  | .local _ .vmem, ⟨9, _⟩ => ⟨S1x256, .f32⟩
  | .local _ .vmem, ⟨10, _⟩ => ⟨S1024x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8x2048x1024 : Shape := ⟨3, ![8, 2048, 1024]⟩
abbrev S1024 : Shape := ⟨1, ![1024]⟩
abbrev S1024x1024 : Shape := ⟨2, ![1024, 1024]⟩
abbrev S8x256x2048 : Shape := ⟨3, ![8, 256, 2048]⟩
abbrev S256 : Shape := ⟨1, ![256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x2048x4 : Shape := ⟨3, ![8, 2048, 4]⟩
abbrev S8x2048x4x1 : Shape := ⟨4, ![8, 2048, 4, 1]⟩
abbrev S1x1x1x256 : Shape := ⟨4, ![1, 1, 1, 256]⟩
abbrev S8x256x1024 : Shape := ⟨3, ![8, 256, 1024]⟩
abbrev S8x256x4x256 : Shape := ⟨4, ![8, 256, 4, 256]⟩
abbrev S8x256x4 : Shape := ⟨3, ![8, 256, 4]⟩
abbrev S8x256x4x1 : Shape := ⟨4, ![8, 256, 4, 1]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 85
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1024, .f32⟩
  | .hbm, ⟨3, _⟩ => ⟨S8x256x2048, .bf16⟩
  | .hbm, ⟨4, _⟩ => ⟨S256, .f32⟩
  | .hbm, ⟨5, _⟩ => ⟨S256, .f32⟩
  | .hbm, ⟨6, _⟩ => ⟨S1024x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x256x2048, .f32⟩
  | .hbm, ⟨24, _⟩ => ⟨S8x2048x1024, .f32⟩
  | .hbm, ⟨25, _⟩ => ⟨S8x2048x4x256, .f32⟩
  | .hbm, ⟨26, _⟩ => ⟨S8x2048x4x256, .f32⟩
  | .hbm, ⟨27, _⟩ => ⟨S_, .f32⟩
  | .hbm, ⟨28, _⟩ => ⟨S8x2048x4, .f32⟩
  | .hbm, ⟨29, _⟩ => ⟨S8x2048x4x1, .f32⟩
  | .hbm, ⟨30, _⟩ => ⟨S_, .f32⟩
  | .hbm, ⟨31, _⟩ => ⟨S8x2048x4x1, .f32⟩
  | .hbm, ⟨32, _⟩ => ⟨S8x2048x4x1, .f32⟩
  | .hbm, ⟨33, _⟩ => ⟨S_, .f32⟩
  | .hbm, ⟨34, _⟩ => ⟨S8x2048x4x1, .f32⟩
  | .hbm, ⟨35, _⟩ => ⟨S8x2048x4x1, .f32⟩
  | .hbm, ⟨36, _⟩ => ⟨S8x2048x4x1, .f32⟩
  | .hbm, ⟨37, _⟩ => ⟨S8x2048x4x256, .f32⟩
  | .hbm, ⟨38, _⟩ => ⟨S8x2048x4x256, .f32⟩
  | .hbm, ⟨39, _⟩ => ⟨S1x1x1x256, .f32⟩
  | .hbm, ⟨40, _⟩ => ⟨S8x2048x4x256, .f32⟩
  | .hbm, ⟨41, _⟩ => ⟨S8x2048x4x256, .f32⟩
  | .hbm, ⟨42, _⟩ => ⟨S8x256x1024, .f32⟩
  | .hbm, ⟨43, _⟩ => ⟨S8x256x4x256, .f32⟩
  | .hbm, ⟨44, _⟩ => ⟨S8x256x4x256, .f32⟩
  | .hbm, ⟨45, _⟩ => ⟨S_, .f32⟩
  | .hbm, ⟨46, _⟩ => ⟨S8x256x4, .f32⟩
  | .hbm, ⟨47, _⟩ => ⟨S8x256x4x1, .f32⟩
  | .hbm, ⟨48, _⟩ => ⟨S_, .f32⟩
  | .hbm, ⟨49, _⟩ => ⟨S8x256x4x1, .f32⟩
  | .hbm, ⟨50, _⟩ => ⟨S8x256x4x1, .f32⟩
  | .hbm, ⟨51, _⟩ => ⟨S_, .f32⟩
  | .hbm, ⟨52, _⟩ => ⟨S8x256x4x1, .f32⟩
  | .hbm, ⟨53, _⟩ => ⟨S8x256x4x1, .f32⟩
  | .hbm, ⟨54, _⟩ => ⟨S8x256x4x1, .f32⟩
  | .hbm, ⟨55, _⟩ => ⟨S8x256x4x256, .f32⟩
  | .hbm, ⟨56, _⟩ => ⟨S8x256x4x256, .f32⟩
  | .hbm, ⟨57, _⟩ => ⟨S1x1x1x256, .f32⟩
  | .hbm, ⟨58, _⟩ => ⟨S8x256x4x256, .f32⟩
  | .hbm, ⟨59, _⟩ => ⟨S8x256x4x256, .f32⟩
  | .hbm, ⟨60, _⟩ => ⟨S8x256x1024, .f32⟩
  | .hbm, ⟨61, _⟩ => ⟨S8x256x4x256, .f32⟩
  | .hbm, ⟨62, _⟩ => ⟨S8x4x2048x256, .f32⟩
  | .hbm, ⟨63, _⟩ => ⟨S_, .f32⟩
  | .hbm, ⟨64, _⟩ => ⟨S8x4x2048x256, .f32⟩
  | .hbm, ⟨65, _⟩ => ⟨S8x4x2048x256, .f32⟩
  | .hbm, ⟨66, _⟩ => ⟨S_, .f32⟩
  | .hbm, ⟨67, _⟩ => ⟨S8x4x2048, .f32⟩
  | .hbm, ⟨68, _⟩ => ⟨S_, .f32⟩
  | .hbm, ⟨69, _⟩ => ⟨S8x4x2048, .f32⟩
  | .hbm, ⟨70, _⟩ => ⟨S8x4x2048, .f32⟩
  | .hbm, ⟨71, _⟩ => ⟨S8x4x2048x1, .f32⟩
  | .hbm, ⟨72, _⟩ => ⟨S8x4x2048x256, .f32⟩
  | .hbm, ⟨73, _⟩ => ⟨S8x4x2048x256, .f32⟩
  | .hbm, ⟨74, _⟩ => ⟨S8x4x2048x256, .f32⟩
  | .hbm, ⟨75, _⟩ => ⟨S_, .f32⟩
  | .hbm, ⟨76, _⟩ => ⟨S8x4x2048, .f32⟩
  | .hbm, ⟨77, _⟩ => ⟨S8x4x2048x1, .f32⟩
  | .hbm, ⟨78, _⟩ => ⟨S8x4x2048x256, .f32⟩
  | .hbm, ⟨79, _⟩ => ⟨S8x4x2048x256, .f32⟩
  | .hbm, ⟨80, _⟩ => ⟨S8x4x256x2048, .f32⟩
  | .hbm, ⟨81, _⟩ => ⟨S8x2048x4x256, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Kernel6.lean ====
abbrev S2048x1024 : Shape := ⟨2, ![2048, 1024]⟩
abbrev S1024 : Shape := ⟨1, ![1024]⟩
abbrev S2x1024x1024 : Shape := ⟨3, ![2, 1024, 1024]⟩
abbrev S2x1024x2048 : Shape := ⟨3, ![2, 1024, 2048]⟩
abbrev S1x1024 : Shape := ⟨2, ![1, 1024]⟩
abbrev S2048x2048 : Shape := ⟨2, ![2048, 2048]⟩
abbrev S1024x1024 : Shape := ⟨2, ![1024, 1024]⟩
abbrev S1x1024x2048 : Shape := ⟨3, ![1, 1024, 2048]⟩
abbrev S1024x2048 : Shape := ⟨2, ![1024, 2048]⟩
abbrev S1024x1 : Shape := ⟨2, ![1024, 1]⟩

abbrev nBuf : Space → Nat
  | .hbm => 9
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2x1024x1024, .f32⟩
  | .hbm, ⟨3, _⟩ => ⟨S2x1024x1024, .f32⟩
  | .hbm, ⟨4, _⟩ => ⟨S2x1024x1024, .bf16⟩
  | .hbm, ⟨5, _⟩ => ⟨S2x1024x1024, .bf16⟩
  | .hbm, ⟨6, _⟩ => ⟨S2x1024x2048, .bf16⟩
  | .hbm, ⟨7, _⟩ => ⟨S1x1024, .f32⟩
  | .hbm, ⟨8, _⟩ => ⟨S2048x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2048x1024 : Shape := ⟨2, ![2048, 1024]⟩
abbrev S1024 : Shape := ⟨1, ![1024]⟩
abbrev S2x1024x1024 : Shape := ⟨3, ![2, 1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1024x1024 : Shape := ⟨3, ![1, 1024, 1024]⟩
abbrev S1024x1024 : Shape := ⟨2, ![1024, 1024]⟩
abbrev S2048x2048 : Shape := ⟨2, ![2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2x1024x1024, .f32⟩
  | .hbm, ⟨3, _⟩ => ⟨S2x1024x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S1x1024x1024, .f32⟩
  | .hbm, ⟨21, _⟩ => ⟨S1024x1024, .f32⟩
  | .hbm, ⟨22, _⟩ => ⟨S2048x1024, .f32⟩
  | .hbm, ⟨23, _⟩ => ⟨S1x1024x1024, .f32⟩
  | .hbm, ⟨24, _⟩ => ⟨S1024x1024, .f32⟩
  | .hbm, ⟨25, _⟩ => ⟨S2048x1024, .f32⟩
  | .hbm, ⟨26, _⟩ => ⟨S2048x2048, .f32⟩
  | .hbm, ⟨27, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel7.lean ====
abbrev S8x2048x7168 : Shape := ⟨3, ![8, 2048, 7168]⟩
abbrev S3x1536 : Shape := ⟨2, ![3, 1536]⟩
abbrev S8x2048x1536 : Shape := ⟨3, ![8, 2048, 1536]⟩
abbrev S1x2048x512 : Shape := ⟨3, ![1, 2048, 512]⟩
abbrev S3x512 : Shape := ⟨2, ![3, 512]⟩
abbrev S2048x512 : Shape := ⟨2, ![2048, 512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x7168, .bf16⟩
  | .hbm, ⟨1, _⟩ => ⟨S3x1536, .f32⟩
  | .hbm, ⟨2, _⟩ => ⟨S8x2048x1536, .bf16⟩
  | .local _ .vmem, ⟨0, _⟩ => ⟨S1x2048x512, .bf16⟩
  | .local _ .vmem, ⟨1, _⟩ => ⟨S1x2048x512, .bf16⟩
  | .local _ .vmem, ⟨2, _⟩ => ⟨S3x512, .f32⟩
  | .local _ .vmem, ⟨3, _⟩ => ⟨S3x512, .f32⟩
  | .local _ .vmem, ⟨4, _⟩ => ⟨S1x2048x512, .bf16⟩
  | .local _ .vmem, ⟨5, _⟩ => ⟨S1x2048x512, .bf16⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8x2048x7168 : Shape := ⟨3, ![8, 2048, 7168]⟩
abbrev S3x1536 : Shape := ⟨2, ![3, 1536]⟩
abbrev S8x2048x1536 : Shape := ⟨3, ![8, 2048, 1536]⟩
abbrev S_ : Shape := ⟨0, ![]⟩
abbrev S8x2050x1536 : Shape := ⟨3, ![8, 2050, 1536]⟩
abbrev S1x1536 : Shape := ⟨2, ![1, 1536]⟩
abbrev S1536 : Shape := ⟨1, ![1536]⟩
abbrev S1x1x1536 : Shape := ⟨3, ![1, 1, 1536]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x7168, .bf16⟩
  | .hbm, ⟨1, _⟩ => ⟨S3x1536, .f32⟩
  | .hbm, ⟨2, _⟩ => ⟨S8x2048x7168, .f32⟩
  | .hbm, ⟨3, _⟩ => ⟨S8x2048x1536, .f32⟩
  | .hbm, ⟨4, _⟩ => ⟨S_, .i32⟩
  | .hbm, ⟨5, _⟩ => ⟨S_, .f32⟩
  | .hbm, ⟨6, _⟩ => ⟨S8x2050x1536, .f32⟩
  | .hbm, ⟨7, _⟩ => ⟨S8x2048x1536, .f32⟩
  | .hbm, ⟨8, _⟩ => ⟨S1x1536, .f32⟩
  | .hbm, ⟨9, _⟩ => ⟨S1536, .f32⟩
  | .hbm, ⟨10, _⟩ => ⟨S1x1x1536, .f32⟩
  | .hbm, ⟨11, _⟩ => ⟨S8x2048x1536, .f32⟩
  | .hbm, ⟨12, _⟩ => ⟨S8x2048x1536, .f32⟩
  | .hbm, ⟨13, _⟩ => ⟨S8x2048x1536, .f32⟩
  | .hbm, ⟨14, _⟩ => ⟨S1x1536, .f32⟩
  | .hbm, ⟨15, _⟩ => ⟨S1536, .f32⟩
  | .hbm, ⟨16, _⟩ => ⟨S1x1x1536, .f32⟩
  | .hbm, ⟨17, _⟩ => ⟨S8x2048x1536, .f32⟩
  | .hbm, ⟨18, _⟩ => ⟨S8x2048x1536, .f32⟩
  | .hbm, ⟨19, _⟩ => ⟨S8x2048x1536, .f32⟩
  | .hbm, ⟨20, _⟩ => ⟨S8x2048x1536, .f32⟩
  | .hbm, ⟨21, _⟩ => ⟨S1x1536, .f32⟩
  | .hbm, ⟨22, _⟩ => ⟨S1536, .f32⟩
  | .hbm, ⟨23, _⟩ => ⟨S1x1x1536, .f32⟩
  | .hbm, ⟨24, _⟩ => ⟨S8x2048x1536, .f32⟩
  | .hbm, ⟨25, _⟩ => ⟨S8x2048x1536, .f32⟩
  | .hbm, ⟨26, _⟩ => ⟨S8x2048x1536, .f32⟩
  | .hbm, ⟨27, _⟩ => ⟨S8x2048x1536, .bf16⟩
  | _, _ => ⟨S8x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Proof.AttnTables.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! # The attention's host code: the rotary tables, the tiled gains and the head masks that the call reads -/

@[expose] public section

set_option maxRecDepth 16384

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Cert.KernelIdeal.Value
open Cert.ReferenceIdeal.Read

variable (m : (ℓ : Loc nD τ sig) → Buf (Elt Ideal) ℓ)

/-- The reference's cosines and sines, at a position, an axis of the grid and a frequency. -/
abbrev cosT : FVec Ideal S2048x2x16 .f32 := Cert.ReferenceIdeal.Read.val_main_v25 (F := Ideal)
@[inherit_doc cosT]
abbrev sinT : FVec Ideal S2048x2x16 .f32 := Cert.ReferenceIdeal.Read.val_main_v26 (F := Ideal)
/-- A table of zeros of their shape. -/
abbrev zeroT : FVec Ideal S2048x2x16 .f32 := broadcastInDim S2048x2x16 ![] bcast_S_S2048x2x16 (constant S_ .f32 0x00000000#32)

/-- Two tables side by side along the frequencies, as 64 columns. -/
def pairT (u v : FVec Ideal S2048x2x16 .f32) : FVec Ideal S2048x64 .f32 :=
  shapeCast S2048x64 (concatenate S2048x2x32 2 [⟨S2048x2x16, u⟩, ⟨S2048x2x16, v⟩]
    concatenates_S2048x2x16_S2048x2x16_S2048x2x32_d2) shapeCasts_S2048x2x32_S2048x64
/-- A table of 64 columns, once per query head. -/
def tileQ (t : FVec Ideal S2048x64 .f32) : FVec Ideal S2048x512 .f32 :=
  shapeCast S2048x512 (broadcastInDim S1x2048x8x64 ![0, 1, 2, 3] bcast_S1x2048x1x64_S1x2048x8x64_0_1_2_3
    (shapeCast S1x2048x1x64 t shapeCasts_S2048x64_S1x2048x1x64)) shapeCasts_S1x2048x8x64_S2048x512
/-- A table of 64 columns, once per key head. -/
def tileK (t : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 t shapeCasts_S2048x64_S1x2048x1x64)) shapeCasts_S1x2048x2x64_S2048x128

theorem tileQ_at (t : FVec Ideal S2048x64 .f32) (l : Fin 2048) (j : Fin 512) :
    tileQ t (ix2 l j) = t (ix2 l ⟨j % 64, Nat.mod_lt _ (by decide)⟩) := by
  pointwise [tileQ]
theorem tileK_at (t : FVec Ideal S2048x64 .f32) (l : Fin 2048) (j : Fin 128) :
    tileK t (ix2 l j) = t (ix2 l ⟨j % 64, Nat.mod_lt _ (by decide)⟩) := by
  pointwise [tileK]
/-- Column `d` of the pair: the first table where `d % 32 < 16`, else the second. -/
theorem pairT_at (u v : FVec Ideal S2048x2x16 .f32) (l : Fin 2048) (d : Fin 64) :
    pairT u v (ix2 l d) = if h : d.val % 32 < 16 then u (ix3 l ⟨d / 32, by omega⟩ ⟨d % 32, h⟩)
      else v (ix3 l ⟨d / 32, by omega⟩ ⟨d % 32 - 16, by omega⟩) := by
  pointwise [pairT]

theorem v33_eq (c : Dev nD) : V m c main_v33 = tileQ (pairT cosT cosT) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem v36_eq (c : Dev nD) : V m c main_v36 = tileQ (pairT (Host.negf sinT) zeroT) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem v39_eq (c : Dev nD) : V m c main_v39 = tileQ (pairT zeroT sinT) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem v42_eq (c : Dev nD) : V m c main_v42 = tileK (pairT cosT cosT) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem v45_eq (c : Dev nD) : V m c main_v45 = tileK (pairT (Host.negf sinT) zeroT) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem v48_eq (c : Dev nD) : V m c main_v48 = tileK (pairT zeroT sinT) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

/-- The tiled gain at column `j` is the gain at `j % 64`. -/
theorem v52_at (c : Dev nD) (j : Fin 512) :
    V m c main_v52 (ix2 0 j) = m ((c : Thread nD τ).loc main_arg1) (ix1 ⟨j % 64, Nat.mod_lt _ (by decide)⟩) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  simp only [StableHlo.TRef.toBuf, StableHlo.TRef.ofBuf, cast_eq, id_eq]
  pointwise

/-- The tiled gain at column `j` is the gain at `j % 64`. -/
theorem v56_at (c : Dev nD) (j : Fin 128) :
    V m c main_v56 (ix2 0 j) = m ((c : Thread nD τ).loc main_arg2) (ix1 ⟨j % 64, Nat.mod_lt _ (by decide)⟩) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  simp only [StableHlo.TRef.toBuf, StableHlo.TRef.ofBuf, cast_eq, id_eq]
  pointwise

/-- The floor division by 64 as printed. -/
def fdiv (l : ℕ) : BitVec 32 := Scalar.select
          (IntOp.andi
            (IntOp.cmpi CmpIPredicate.ne
              (if BitVec.ofNat 32 l = 0 then (0 : BitVec 32) else if (BitVec.ofNat 32 l).msb = true then (-1 : BitVec 32) else 1)
              (if 64#32 = 0 then (0 : BitVec 32) else if (64#32).msb = true then (-1 : BitVec 32) else 1))
            (IntOp.cmpi CmpIPredicate.ne (IntOp.remsi ArithUnit.host (BitVec.ofNat 32 l) 64#32) 0#32))
          (IntOp.subi (IntOp.divsi ArithUnit.host (BitVec.ofNat 32 l) 64#32) 1#32)
          (IntOp.divsi ArithUnit.host (BitVec.ofNat 32 l) 64#32)

theorem fdiv_eq (l : Fin 512) : fdiv l = BitVec.ofNat 32 (l / 64) := by
  revert l; decide +kernel

/-- The word of 1/64. -/
theorem one_64 : Ideal.ofBits FTy.f32 1015021568#32 = ((1 / 64 : ℝ) : EReal) := by
  simp [Ideal.ofBits, Ideal.ieee, -EReal.coe_mul]; norm_num

/-- Whether two columns lie in one head, as the printed comparison of the two quotients. -/
theorem sameHead (a b : Fin 512) :
    Scalar.select (IntOp.cmpi CmpIPredicate.eq (fdiv a) (fdiv b)) (Ideal.ofBits FTy.f32 1015021568#32) 0
      = if a.val / 64 = b.val / 64 then ((1 / 64 : ℝ) : EReal) else 0 := by
  have h : ∀ p q : Fin 8, IntOp.cmpi CmpIPredicate.eq (BitVec.ofNat 32 p) (BitVec.ofNat 32 q) = if p = q then 1#1 else 0#1 := by
    decide +kernel
  have h' := h ⟨a / 64, by omega⟩ ⟨b / 64, by omega⟩
  simp only [Fin.mk.injEq] at h'
  rw [fdiv_eq, fdiv_eq, h', one_64]
  split <;> rfl

/-- The mask of one head: 1/64 where both columns lie in one head, else 0. -/
theorem v65_at (c : Dev nD) (l j : Fin 512) :
    V m c main_v65 (ix2 l j) = if l.val / 64 = j.val / 64 then ((1 / 64 : ℝ) : EReal) else 0 := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  simp only [StableHlo.TRef.toBuf, StableHlo.TRef.ofBuf, cast_eq, id_eq]
  pointwise
  exact sameHead l j

/-- The mask of one head: 1/64 where both columns lie in one head, else 0. -/
theorem v74_at (c : Dev nD) (l j : Fin 128) :
    V m c main_v74 (ix2 l j) = if l.val / 64 = j.val / 64 then ((1 / 64 : ℝ) : EReal) else 0 := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  simp only [StableHlo.TRef.toBuf, StableHlo.TRef.ofBuf, cast_eq, id_eq]
  pointwise
  exact sameHead ⟨l, by omega⟩ ⟨j, by omega⟩

end Cert.KernelIdeal.AttnValue

end
-- ==== Proof.AttnPay.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! # The attention call, read at an element: what a point stores, and its heads over the scratches -/

@[expose] public section

set_option maxRecDepth 16384

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Cert.KernelIdeal.Value
open Cert.ReferenceIdeal.Read

variable (m : (ℓ : Loc nD τ sig) → Buf (Elt Ideal) ℓ)

/-- The columns of a carried scratch that a head reads. -/
abbrev kLo (K : FVec Ideal S2048x128 .bf16) : FVec Ideal S2048x64 .bf16 := fun y => K ((Rect.unit (s := S2048x128) ![0, 0] S2048x64.size inb_S2048x128_S2048x64_0_0).idx y)
@[inherit_doc kLo]
abbrev kHi (K : FVec Ideal S2048x128 .bf16) : FVec Ideal S2048x64 .bf16 := fun y => K ((Rect.unit (s := S2048x128) ![0, 64] S2048x64.size inb_S2048x128_S2048x64_0_64).idx y)
@[inherit_doc kLo]
abbrev vLo (X : FVec Ideal S2048x256 .bf16) : FVec Ideal S2048x128 .bf16 := fun y => X ((Rect.unit (s := S2048x256) ![0, 0] S2048x128.size inb_S2048x256_S2048x128_0_0).idx y)
@[inherit_doc kLo]
abbrev vHi (X : FVec Ideal S2048x256 .bf16) : FVec Ideal S2048x128 .bf16 := fun y => X ((Rect.unit (s := S2048x256) ![0, 128] S2048x128.size inb_S2048x256_S2048x128_0_128).idx y)

/-- The eight heads of a block of queries `q`, over the keys `K` and the values with ones `X`. -/
def heads (q : FVec Ideal S1024x512 .bf16) (K : FVec Ideal S2048x128 .bf16) (X : FVec Ideal S2048x256 .bf16) : FVec Ideal S1x1024x512 .bf16 :=
  k0_pay1 q (k0_pay7 q (kLo K) (vLo X)) (k0_pay8 q (kLo K) (vLo X))
    (k0_pay12 (k0_pay10 q (kLo K) (vLo X)) (k0_pay11 q (kLo K) (vLo X))) (k0_pay13 q (kLo K) (vLo X)) (k0_pay14 q (kHi K) (vHi X))
    (k0_pay15 q (kHi K)) (vHi X) (constant S1024x128 FTy.f32 0#32) (kHi K) (vHi X) (kHi K) (vHi X)

/-- What a point leaves in the keys' scratch at the first block of queries of a batch. -/
theorem keys (c : Dev nD) (s : Fin cfg0.N) (h0 : s.val % 2 = 0) :
    (outsAt0 m c s.val s.isLt).2.1 = k0_pay2 (iblk m c 1 s) (iblk m c 12 s) (iblk m c 4 s) (iblk m c 8 s) (iblk m c 9 s) (iblk m c 10 s) := by
  rw [outsAt0_A m c s h0]; frame_out; rfl

/-- What it leaves in the values' scratch. -/
theorem values (c : Dev nD) (s : Fin cfg0.N) (h0 : s.val % 2 = 0) :
    (outsAt0 m c s.val s.isLt).2.2 = k0_pay5 (k0_pay3 (iblk m c 2 s)) k0_pay4 := by
  rw [outsAt0_A m c s h0]; frame_out; rfl

/-- The first block of queries of a batch, over the keys and values of that batch. -/
theorem first (c : Dev nD) (s : Fin cfg0.N) (h0 : s.val % 2 = 0) :
    (outsAt0 m c s.val s.isLt).1 = heads
      (k0_pay6 (iblk m c 0 s) (iblk m c 11 s) (iblk m c 3 s) (iblk m c 5 s) (iblk m c 6 s) (iblk m c 7 s))
      (k0_pay2 (iblk m c 1 s) (iblk m c 12 s) (iblk m c 4 s) (iblk m c 8 s) (iblk m c 9 s) (iblk m c 10 s))
      (k0_pay5 (k0_pay3 (iblk m c 2 s)) k0_pay4) := by
  rw [outsAt0_A m c s h0]
  frame_open
  simp (disch := decide) only [↓ View.readCov_skip, ↓ View.readCov_cons_toLoadRect, ↓ View.readCov_fill]
  frame_out
  rfl

/-- The second block of queries, over what the first left. -/
theorem second (c : Dev nD) (s : Fin cfg0.N) (h0 : ¬ s.val % 2 = 0) :
    (outsAt0 m c s.val s.isLt).1 = heads
      (k0_pay6 (iblk m c 0 s) (iblk m c 11 s) (iblk m c 3 s) (iblk m c 5 s) (iblk m c 6 s) (iblk m c 7 s))
      (outsAt0 m c (s.val - 1) (Nat.lt_of_le_of_lt (Nat.sub_le _ _) s.isLt)).2.1 (outsAt0 m c (s.val - 1) (Nat.lt_of_le_of_lt (Nat.sub_le _ _) s.isLt)).2.2 := by
  rw [outsAt0_B m c s h0]
  frame_out
  simp only [read_unread_whole]
  rfl

/-- A loaded column of a scratch is the scratch's column. -/
theorem kLo_at (K : FVec Ideal S2048x128 .bf16) (x : Fin 2048) (z : Fin 64) (g : Fin 128) (h : z.val = g.val) :
    kLo K (ix2 x z) = K (ix2 x g) :=
  congrArg K (funext fun a => Fin.ext (by match a with | ⟨0, _⟩ => exact (Nat.zero_add _).trans (Nat.one_mul _) | ⟨1, _⟩ => exact ((Nat.zero_add _).trans (Nat.one_mul _)).trans h))
@[inherit_doc kLo_at]
theorem kHi_at (K : FVec Ideal S2048x128 .bf16) (x : Fin 2048) (z : Fin 64) (g : Fin 128) (h : 64 + z.val = g.val) :
    kHi K (ix2 x z) = K (ix2 x g) :=
  congrArg K (funext fun a => Fin.ext (by match a with | ⟨0, _⟩ => exact (Nat.zero_add _).trans (Nat.one_mul _) | ⟨1, _⟩ => exact (congrArg (64 + ·) (Nat.one_mul _)).trans h))
@[inherit_doc kLo_at]
theorem vLo_at (X : FVec Ideal S2048x256 .bf16) (x : Fin 2048) (z : Fin 128) (g : Fin 256) (h : z.val = g.val) :
    vLo X (ix2 x z) = X (ix2 x g) :=
  congrArg X (funext fun a => Fin.ext (by match a with | ⟨0, _⟩ => exact (Nat.zero_add _).trans (Nat.one_mul _) | ⟨1, _⟩ => exact ((Nat.zero_add _).trans (Nat.one_mul _)).trans h))
@[inherit_doc kLo_at]
theorem vHi_at (X : FVec Ideal S2048x256 .bf16) (x : Fin 2048) (z : Fin 128) (g : Fin 256) (h : 128 + z.val = g.val) :
    vHi X (ix2 x z) = X (ix2 x g) :=
  congrArg X (funext fun a => Fin.ext (by match a with | ⟨0, _⟩ => exact (Nat.zero_add _).trans (Nat.one_mul _) | ⟨1, _⟩ => exact (congrArg (128 + ·) (Nat.one_mul _)).trans h))

/-- A head's value: the weights `2^(score − greatest score)` of a query row over the keys `k`, times the values, divided by the
    same weights times the ones. `f` gives the columns of the head's query, `v` and `o` the value's and the one's column in `w`. -/
def over (q : FVec Ideal S1024x512 .bf16) (k : FVec Ideal S2048x64 .bf16) (w : FVec Ideal S2048x128 .bf16) (r : Fin 1024)
    (f : Fin 64 → Fin 512) (v o : Fin 128) : EReal :=
  Ideal.div
    (∑ x : Fin 2048, FloatOps.exp2 (F := Ideal) (φ := .f32) ((∑ z : Fin 64, q (ix2 r (f z)) * k (ix2 x z))
      - Finset.fold max (Ideal.ofBits FTy.f32 4286578688#32) (fun x : Fin 2048 => ∑ z : Fin 64, q (ix2 r (f z)) * k (ix2 x z)) Finset.univ) * w (ix2 x v))
    (∑ x : Fin 2048, FloatOps.exp2 (F := Ideal) (φ := .f32) ((∑ z : Fin 64, q (ix2 r (f z)) * k (ix2 x z))
      - Finset.fold max (Ideal.ofBits FTy.f32 4286578688#32) (fun x : Fin 2048 => ∑ z : Fin 64, q (ix2 r (f z)) * k (ix2 x z)) Finset.univ) * w (ix2 x o))

/-- The head of the query columns from 0 on. -/
theorem pay7_at (q : FVec Ideal S1024x512 .bf16) (k : FVec Ideal S2048x64 .bf16) (w : FVec Ideal S2048x128 .bf16) (r : Fin 1024) (d : Fin 64) :
    k0_pay7 q k w (ix2 r d) = over q k w r (fun z => ⟨z.val, by omega⟩) ⟨d.val, by omega⟩ ⟨64 + d.val, by omega⟩ := by
  pointwise [k0_pay7, over]
@[inherit_doc pay7_at]
theorem pay8_at (q : FVec Ideal S1024x512 .bf16) (k : FVec Ideal S2048x64 .bf16) (w : FVec Ideal S2048x128 .bf16) (r : Fin 1024) (d : Fin 64) :
    k0_pay8 q k w (ix2 r d) = over q k w r (fun z => ⟨64 + z.val, by omega⟩) ⟨d.val, by omega⟩ ⟨64 + d.val, by omega⟩ := by
  pointwise [k0_pay8, over]
@[inherit_doc pay7_at]
theorem pay13_at (q : FVec Ideal S1024x512 .bf16) (k : FVec Ideal S2048x64 .bf16) (w : FVec Ideal S2048x128 .bf16) (r : Fin 1024) (d : Fin 64) :
    k0_pay13 q k w (ix2 r d) = over q k w r (fun z => ⟨192 + z.val, by omega⟩) ⟨d.val, by omega⟩ ⟨64 + d.val, by omega⟩ := by
  pointwise [k0_pay13, over]
@[inherit_doc pay7_at]
theorem pay14_at (q : FVec Ideal S1024x512 .bf16) (k : FVec Ideal S2048x64 .bf16) (w : FVec Ideal S2048x128 .bf16) (r : Fin 1024) (d : Fin 64) :
    k0_pay14 q k w (ix2 r d) = over q k w r (fun z => ⟨256 + z.val, by omega⟩) ⟨d.val, by omega⟩ ⟨64 + d.val, by omega⟩ := by
  pointwise [k0_pay14, over]
@[inherit_doc pay7_at]
theorem pay12_at (q : FVec Ideal S1024x512 .bf16) (k : FVec Ideal S2048x64 .bf16) (w : FVec Ideal S2048x128 .bf16) (r : Fin 1024) (d : Fin 64) :
    k0_pay12 (k0_pay10 q k w) (k0_pay11 q k w) (ix2 r d) = over q k w r (fun z => ⟨128 + z.val, by omega⟩) ⟨d.val, by omega⟩ ⟨64 + d.val, by omega⟩ := by
  pointwise [k0_pay12, k0_pay11, k0_pay10, k0_pay9, over]
/-- The head whose weights are a payload of their own. -/
theorem pay15_at (q : FVec Ideal S1024x512 .bf16) (k : FVec Ideal S2048x64 .bf16) (w : FVec Ideal S2048x128 .bf16) (r : Fin 1024) (d : Fin 64) :
    Ideal.div ((constant (F := Ideal) S1024x128 FTy.f32 0#32) (ix2 r ⟨d.val, by omega⟩) + ∑ x : Fin 2048, k0_pay15 q k (ix2 r x) * w (ix2 x ⟨d.val, by omega⟩))
      ((constant (F := Ideal) S1024x128 FTy.f32 0#32) (ix2 r ⟨64 + d.val, by omega⟩) + ∑ x : Fin 2048, k0_pay15 q k (ix2 r x) * w (ix2 x ⟨64 + d.val, by omega⟩))
      = over q k w r (fun z => ⟨320 + z.val, by omega⟩) ⟨d.val, by omega⟩ ⟨64 + d.val, by omega⟩ := by
  pointwise [k0_pay15, over]
/-- The block's columns are the eight heads' side by side. -/
theorem pay1_at (q : FVec Ideal S1024x512 .bf16) (a0 a1 a2 a3 a4 : FVec Ideal S1024x64 .f32) (p : FVec Ideal S1024x2048 .bf16) (v5 : FVec Ideal S2048x128 .bf16)
    (z : FVec Ideal S1024x128 .f32) (k6 : FVec Ideal S2048x64 .bf16) (v6 : FVec Ideal S2048x128 .bf16) (k7 : FVec Ideal S2048x64 .bf16) (v7 : FVec Ideal S2048x128 .bf16)
    (r : Fin 1024) (j : Fin 512) :
    k0_pay1 q a0 a1 a2 a3 a4 p v5 z k6 v6 k7 v7 (ix3 (0 : Fin 1) r j) =
      if h : j.val < 64 then a0 (ix2 r ⟨j.val, h⟩) else
      if h : j.val - 64 < 64 then a1 (ix2 r ⟨j.val - 64, h⟩) else
      if h : j.val - 64 - 64 < 64 then a2 (ix2 r ⟨j.val - 64 - 64, h⟩) else
      if h : j.val - 64 - 64 - 64 < 64 then a3 (ix2 r ⟨j.val - 64 - 64 - 64, h⟩) else
      if h : j.val - 64 - 64 - 64 - 64 < 64 then a4 (ix2 r ⟨j.val - 64 - 64 - 64 - 64, h⟩) else
      if h : j.val - 64 - 64 - 64 - 64 - 64 < 64 then Ideal.div (z (ix2 r ⟨j.val - 64 - 64 - 64 - 64 - 64, by omega⟩) + ∑ x : Fin 2048, p (ix2 r x) * v5 (ix2 x ⟨j.val - 64 - 64 - 64 - 64 - 64, by omega⟩)) (z (ix2 r ⟨64 + (j.val - 64 - 64 - 64 - 64 - 64), by omega⟩) + ∑ x : Fin 2048, p (ix2 r x) * v5 (ix2 x ⟨64 + (j.val - 64 - 64 - 64 - 64 - 64), by omega⟩)) else
      if h : j.val - 64 - 64 - 64 - 64 - 64 - 64 < 64 then over q k6 v6 r (fun z => ⟨384 + z.val, by omega⟩) ⟨j.val - 64 - 64 - 64 - 64 - 64 - 64, by omega⟩ ⟨64 + (j.val - 64 - 64 - 64 - 64 - 64 - 64), by omega⟩ else
      over q k7 v7 r (fun z => ⟨448 + z.val, by omega⟩) ⟨j.val - 64 - 64 - 64 - 64 - 64 - 64 - 64, by omega⟩ ⟨64 + (j.val - 64 - 64 - 64 - 64 - 64 - 64 - 64), by omega⟩ := by
  pointwise [k0_pay1, over]

/-- A head's value over the scratches: as `over`, with the head's columns `g` of the keys and `v`, `o` of the values. -/
def headVal (q : FVec Ideal S1024x512 .bf16) (K : FVec Ideal S2048x128 .bf16) (X : FVec Ideal S2048x256 .bf16) (r : Fin 1024)
    (f : Fin 64 → Fin 512) (g : Fin 64 → Fin 128) (v o : Fin 256) : EReal :=
  Ideal.div
    (∑ x : Fin 2048, FloatOps.exp2 (F := Ideal) (φ := .f32) ((∑ z : Fin 64, q (ix2 r (f z)) * K (ix2 x (g z)))
      - Finset.fold max (Ideal.ofBits FTy.f32 4286578688#32) (fun x : Fin 2048 => ∑ z : Fin 64, q (ix2 r (f z)) * K (ix2 x (g z))) Finset.univ) * X (ix2 x v))
    (∑ x : Fin 2048, FloatOps.exp2 (F := Ideal) (φ := .f32) ((∑ z : Fin 64, q (ix2 r (f z)) * K (ix2 x (g z)))
      - Finset.fold max (Ideal.ofBits FTy.f32 4286578688#32) (fun x : Fin 2048 => ∑ z : Fin 64, q (ix2 r (f z)) * K (ix2 x (g z))) Finset.univ) * X (ix2 x o))

/-- A head over loaded columns is the head over the scratches. -/
theorem over_eq (q : FVec Ideal S1024x512 .bf16) (K : FVec Ideal S2048x128 .bf16) (X : FVec Ideal S2048x256 .bf16) (r : Fin 1024)
    (k : FVec Ideal S2048x64 .bf16) (w : FVec Ideal S2048x128 .bf16) (f f' : Fin 64 → Fin 512) (g : Fin 64 → Fin 128) (v o : Fin 128) (v' o' : Fin 256)
    (hf : ∀ z, (f z).val = (f' z).val) (hk : ∀ x z, k (ix2 x z) = K (ix2 x (g z))) (hv : ∀ x, w (ix2 x v) = X (ix2 x v')) (ho : ∀ x, w (ix2 x o) = X (ix2 x o')) :
    over q k w r f v o = headVal q K X r f' g v' o' := by
  obtain rfl : f = f' := funext fun z => Fin.ext (hf z)
  unfold headVal over
  simp only [hk, hv, ho]

/-- A head of the first four, at the column `j` of the block. -/
theorem over_lo (q : FVec Ideal S1024x512 .bf16) (K : FVec Ideal S2048x128 .bf16) (X : FVec Ideal S2048x256 .bf16) (r : Fin 1024) (j : Fin 512)
    (f : Fin 64 → Fin 512) (v o : Fin 128) (h : j.val < 256) (hf : ∀ z, (f z).val = j.val / 64 * 64 + z.val) (hv : v.val = j.val % 64) (ho : o.val = 64 + j.val % 64) :
    over q (kLo K) (vLo X) r f v o = headVal q K X r (fun z => ⟨j.val / 64 * 64 + z.val, by omega⟩) (fun z => ⟨j.val / 256 * 64 + z.val, by omega⟩)
      ⟨j.val / 256 * 128 + j.val % 64, by omega⟩ ⟨j.val / 256 * 128 + 64 + j.val % 64, by omega⟩ :=
  over_eq q K X r _ _ _ _ _ _ _ _ _ hf (fun x z => kLo_at K x z _ (by dsimp only; omega)) (fun x => vLo_at X x _ _ (by dsimp only; omega))
    (fun x => vLo_at X x _ _ (by dsimp only; omega))

/-- A head of the last four, at the column `j` of the block. -/
theorem over_hi (q : FVec Ideal S1024x512 .bf16) (K : FVec Ideal S2048x128 .bf16) (X : FVec Ideal S2048x256 .bf16) (r : Fin 1024) (j : Fin 512)
    (f : Fin 64 → Fin 512) (v o : Fin 128) (h : 256 ≤ j.val) (hf : ∀ z, (f z).val = j.val / 64 * 64 + z.val) (hv : v.val = j.val % 64) (ho : o.val = 64 + j.val % 64) :
    over q (kHi K) (vHi X) r f v o = headVal q K X r (fun z => ⟨j.val / 64 * 64 + z.val, by omega⟩) (fun z => ⟨j.val / 256 * 64 + z.val, by omega⟩)
      ⟨j.val / 256 * 128 + j.val % 64, by omega⟩ ⟨j.val / 256 * 128 + 64 + j.val % 64, by omega⟩ :=
  over_eq q K X r _ _ _ _ _ _ _ _ _ hf (fun x z => kHi_at K x z _ (by dsimp only; omega)) (fun x => vHi_at X x _ _ (by dsimp only; omega))
    (fun x => vHi_at X x _ _ (by dsimp only; omega))

/-- A value by cases equals what every case equals. -/
theorem cases_eq {p : Prop} [Decidable p] {s : EReal} {t : p → EReal} {e : ¬p → EReal} (ht : ∀ h, t h = s)
    (he : ∀ h, e h = s) : dite p t e = s := by
  by_cases h : p
  · rw [dif_pos h]; exact ht h
  · rw [dif_neg h]; exact he h

/-- The value at a column of the block of results is its head's: the query columns of head `j / 64`, the keys and values of `j / 256`. -/
theorem heads_at (q : FVec Ideal S1024x512 .bf16) (K : FVec Ideal S2048x128 .bf16) (X : FVec Ideal S2048x256 .bf16) (r : Fin 1024) (j : Fin 512) :
    heads q K X (ix3 (0 : Fin 1) r j) = headVal q K X r (fun z => ⟨j.val / 64 * 64 + z.val, by omega⟩) (fun z => ⟨j.val / 256 * 64 + z.val, by omega⟩)
      ⟨j.val / 256 * 128 + j.val % 64, by omega⟩ ⟨j.val / 256 * 128 + 64 + j.val % 64, by omega⟩ := by
  have hj : j.val < 512 := j.isLt
  refine (pay1_at q _ _ _ _ _ _ _ _ _ _ _ _ r j).trans ?_
  refine cases_eq (fun h => (pay7_at q _ _ r _).trans (over_lo q K X r j _ _ _ ?_ (fun z => ?_) ?_ ?_)) (fun h0 => ?_)
  on_goal 5 => refine cases_eq (fun h => (pay8_at q _ _ r _).trans (over_lo q K X r j _ _ _ ?_ (fun z => ?_) ?_ ?_)) (fun h1 => ?_)
  on_goal 9 => refine cases_eq (fun h => (pay12_at q _ _ r _).trans (over_lo q K X r j _ _ _ ?_ (fun z => ?_) ?_ ?_)) (fun h2 => ?_)
  on_goal 13 => refine cases_eq (fun h => (pay13_at q _ _ r _).trans (over_lo q K X r j _ _ _ ?_ (fun z => ?_) ?_ ?_)) (fun h3 => ?_)
  on_goal 17 => refine cases_eq (fun h => (pay14_at q _ _ r _).trans (over_hi q K X r j _ _ _ ?_ (fun z => ?_) ?_ ?_)) (fun h4 => ?_)
  on_goal 21 => refine cases_eq (fun h => (pay15_at q (kHi K) (vHi X) r ⟨j.val - 64 - 64 - 64 - 64 - 64, h⟩).trans (over_hi q K X r j _ _ _ ?_ (fun z => ?_) ?_ ?_)) (fun h5 => ?_)
  on_goal 25 => refine cases_eq (fun h => over_hi q K X r j _ _ _ ?_ (fun z => ?_) ?_ ?_) (fun h6 => over_hi q K X r j _ _ _ ?_ (fun z => ?_) ?_ ?_)
  all_goals (try dsimp only) <;> omega

/-- A query entry under the norm of its head, as the call computes it. -/
def normedQ (a : FVec Ideal S1x1024x512 .bf16) (gm : FVec Ideal S512x512 .bf16) (g : FVec Ideal S1x512 .f32) (r : Fin 1024) (j : Fin 512) : EReal :=
  a (ix3 (0 : Fin 1) r j) * Ideal.rsqrt ((∑ x : Fin 512, a (ix3 (0 : Fin 1) r x) * a (ix3 (0 : Fin 1) r x) * gm (ix2 x j)) + Ideal.ofBits FTy.f32 897988541#32) * g (ix2 (0 : Fin 1) j)

/-- A query entry of the block: normalised, turned, and scaled. -/
theorem pay6_at (a : FVec Ideal S1x1024x512 .bf16) (gm : FVec Ideal S512x512 .bf16) (g : FVec Ideal S1x512 .f32) (c sa sb : FVec Ideal S1024x512 .f32) (r : Fin 1024) (j : Fin 512) :
    k0_pay6 (F := Ideal) a gm g c sa sb (ix2 r j) = (normedQ a gm g r j * c (ix2 r j)
      + normedQ a gm g r ⟨(j.val + 512 - 496) % 512, Nat.mod_lt _ (by decide)⟩ * sa (ix2 r j)
      + normedQ a gm g r ⟨(j.val + 512 - 16) % 512, Nat.mod_lt _ (by decide)⟩ * sb (ix2 r j)) * (((8 * Real.log 2)⁻¹ : ℝ) : EReal) := by
  rw [← IdealRules.named_const.ideal_named_scalar (φ := .f32) κ "scale_log2e" 1043900987#32 _ rfl]
  pointwise [k0_pay6, normedQ]

/-- A key entry under the norm of its head, as the call computes it. -/
def normedK (a : FVec Ideal S1x2048x128 .bf16) (gm : FVec Ideal S128x128 .bf16) (g : FVec Ideal S1x128 .f32) (r : Fin 2048) (j : Fin 128) : EReal :=
  a (ix3 (0 : Fin 1) r j) * Ideal.rsqrt ((∑ x : Fin 128, a (ix3 (0 : Fin 1) r x) * a (ix3 (0 : Fin 1) r x) * gm (ix2 x j)) + Ideal.ofBits FTy.f32 897988541#32) * g (ix2 (0 : Fin 1) j)

/-- A key entry of the scratch: normalised and turned. -/
theorem pay2_at (a : FVec Ideal S1x2048x128 .bf16) (gm : FVec Ideal S128x128 .bf16) (g : FVec Ideal S1x128 .f32) (c sa sb : FVec Ideal S2048x128 .f32) (r : Fin 2048) (j : Fin 128) :
    k0_pay2 (F := Ideal) a gm g c sa sb (ix2 r j) = normedK a gm g r j * c (ix2 r j)
      + normedK a gm g r ⟨(j.val + 128 - 112) % 128, Nat.mod_lt _ (by decide)⟩ * sa (ix2 r j)
      + normedK a gm g r ⟨(j.val + 128 - 16) % 128, Nat.mod_lt _ (by decide)⟩ * sb (ix2 r j) := by
  pointwise [k0_pay2, normedK]

/-- The values' scratch: each head's columns are its values, then as many ones. -/
theorem pay5_at (a : FVec Ideal S1x2048x128 .bf16) (r : Fin 2048) (j : Fin 256) :
    k0_pay5 (k0_pay3 a) k0_pay4 (ix2 r j) = if h : j.val % 128 < 64 then a (ix3 (0 : Fin 1) r ⟨j.val / 128 * 64 + j.val % 128, by omega⟩) else 1 := by
  pointwise [k0_pay5, k0_pay4, k0_pay3]
  have hj : j.val < 256 := j.isLt
  have same : ∀ k k' : Fin 128, k.val = k'.val → a (ix3 (0 : Fin 1) r k) = a (ix3 (0 : Fin 1) r k') :=
    fun k k' e => congrArg (fun k : Fin 128 => a (ix3 (0 : Fin 1) r k)) (Fin.ext e)
  by_cases hc : j.val % 128 < 64
  · rw [dif_pos hc]
    split_ifs <;> first | (exfalso; omega) | (refine same _ _ ?_; dsimp only; omega)
  · rw [dif_neg hc]
    split_ifs <;> first | (exfalso; omega) | rfl

end Cert.KernelIdeal.AttnValue

end
-- ==== Proof.Softmax.lean ====
module

public import Idealize.ShloMosaic.PureOps.Ideal
public import Idealize.ShloMosaic.PureOps.Ideal.Laws
public import Idealize.ShloMosaic.Lib.Claim
public import Idealize.ShloMosaic.Lib.Pointwise

/-! # The mathematics of the two attentions over the extended reals: norms, masked means and softmax rows -/

@[expose] public section

noncomputable section

open Idealize.ShloMosaic

namespace Cert.Softmax

variable {ι : Type} [Fintype ι]

/-- A finite sum of reals, taken over the extended reals. -/
theorem coe_sum (f : ι → ℝ) : ((∑ i, f i : ℝ) : EReal) = ∑ i, (f i : EReal) := by
  classical
  refine Finset.induction_on (Finset.univ : Finset ι) (by simp) fun a s ha h => ?_
  rw [Finset.sum_insert ha, Finset.sum_insert ha, EReal.coe_add, h]

/-- A real factor that is not negative goes into a sum of any extended reals. -/
theorem sum_mul_coe {α : Type} (s : Finset α) (f : α → EReal) (c : ℝ) (hc : 0 ≤ c) :
    (∑ i ∈ s, f i) * (c : EReal) = ∑ i ∈ s, f i * (c : EReal) := by
  classical
  refine Finset.induction_on s (by simp) fun a s ha h => ?_
  rw [Finset.sum_insert ha, Finset.sum_insert ha,
    EReal.right_distrib_of_nonneg_of_ne_top (EReal.coe_nonneg.mpr hc) (EReal.coe_ne_top c), h]

/-- A sum of extended reals that are not negative is not negative. -/
theorem sum_nonneg' {α : Type} (s : Finset α) (f : α → EReal) (h : ∀ i, 0 ≤ f i) : 0 ≤ ∑ i ∈ s, f i :=
  Finset.sum_nonneg fun i _ => h i

theorem sq_nonneg' (x : EReal) : 0 ≤ x * x := by
  induction x with
  | bot => simp
  | top => simp
  | coe r => rw [← EReal.coe_mul]; exact EReal.coe_nonneg.mpr (mul_self_nonneg r)

/-- An entry times the reciprocal root of its row's mean square, plus a positive constant, is a real number: where an
    entry of the row is infinite the root is infinite and its reciprocal is zero. -/
theorem normed_real (x : ι → EReal) (D e : ℝ) (hD : 0 < D) (he : 0 < e) (i : ι) :
    ∃ a : ℝ, x i * Ideal.rsqrt (Ideal.div (∑ j, x j * x j) (D : EReal) + (e : EReal)) = (a : EReal) := by
  classical
  rw [Ideal.div_coe hD.ne']
  by_cases h : ∀ j, ∃ r : ℝ, x j = (r : EReal)
  · choose r hr using h
    have hs : ∑ j, x j * x j = ((∑ j, r j * r j : ℝ) : EReal) := by
      rw [coe_sum]; exact Finset.sum_congr rfl fun j _ => by rw [hr j, EReal.coe_mul]
    have hpos : 0 < (∑ j, r j * r j) * (1 / D) + e :=
      add_pos_of_nonneg_of_pos (mul_nonneg (Finset.sum_nonneg fun j _ => mul_self_nonneg _) (by positivity)) he
    rw [hs, ← EReal.coe_mul, ← EReal.coe_add, Ideal.rsqrt_coe, if_neg (not_lt.mpr hpos.le), if_neg hpos.ne', hr i,
      ← EReal.coe_mul]
    exact ⟨_, rfl⟩
  · push Not at h
    obtain ⟨j, hj⟩ := h
    have hjj : x j * x j = ⊤ := by
      induction hx : x j with
      | bot => simp
      | top => simp
      | coe r => exact absurd hx (hj r)
    have hs : ∑ j, x j * x j = ⊤ := by
      rw [← Finset.add_sum_erase _ _ (Finset.mem_univ j), hjj]
      exact EReal.top_add_of_ne_bot (ne_of_gt (lt_of_lt_of_le EReal.bot_lt_zero (sum_nonneg' _ _ fun k => sq_nonneg' _)))
    rw [hs, EReal.top_mul_coe_of_pos (by positivity), EReal.top_add_of_ne_bot (EReal.coe_ne_bot e)]
    exact ⟨0, (mul_zero (x i) : x i * (0 : EReal) = 0)⟩

/-- The greatest of finitely many reals, as the fold from −∞: it is one of them and at least each. -/
theorem fold_max_real [Nonempty ι] (f : ι → EReal) (a : ι → ℝ) (h : ∀ i, f i = (a i : EReal)) :
    ∃ k : ι, Finset.univ.fold max ⊥ f = (a k : EReal) ∧ ∀ i, a i ≤ a k := by
  obtain ⟨k, _, hk⟩ := Finset.exists_mem_eq_sup (Finset.univ : Finset ι) Finset.univ_nonempty f
  have hf : Finset.univ.fold max ⊥ f = Finset.univ.sup f := rfl
  refine ⟨k, by rw [hf, hk, h k], fun i => ?_⟩
  have : f i ≤ f k := hk ▸ Finset.le_sup (Finset.mem_univ i)
  rwa [h i, h k, EReal.coe_le_coe_iff] at this

/-- A weighted sum divided by the sum of its positive weights: the division may come before or after the sum. -/
theorem average [Nonempty ι] (p : ι → ℝ) (hp : ∀ i, 0 < p i) (v : ι → EReal) :
    Ideal.div (∑ i, (p i : EReal) * v i) ((∑ i, p i : ℝ) : EReal)
      = ∑ i, Ideal.div (p i : EReal) ((∑ i, p i : ℝ) : EReal) * v i := by
  have hS : 0 < ∑ i, p i := Finset.sum_pos (fun i _ => hp i) Finset.univ_nonempty
  rw [Ideal.div_coe hS.ne', sum_mul_coe _ _ _ (by positivity)]
  refine Finset.sum_congr rfl fun i _ => ?_
  rw [Ideal.div_coe hS.ne', mul_right_comm]

/-- A softmax row in base e with real scores: the quotient of the two sums is the sum of the quotients. -/
theorem row_exp [Nonempty ι] (s : ι → EReal) (hs : ∀ i, ∃ a : ℝ, s i = (a : EReal)) (v : ι → EReal) :
    Ideal.div (∑ i, Ideal.exp (s i - Finset.univ.fold max ⊥ s) * v i) (∑ i, Ideal.exp (s i - Finset.univ.fold max ⊥ s))
      = ∑ i, Ideal.div (Ideal.exp (s i - max ⊥ (Finset.univ.fold max ⊥ s)))
          (∑ j, Ideal.exp (s j - max ⊥ (Finset.univ.fold max ⊥ s))) * v i := by
  choose a ha using hs
  obtain ⟨k, hk, _⟩ := fold_max_real s a ha
  have he : ∀ i, Ideal.exp (s i - (a k : EReal)) = ((Real.exp (a i - a k) : ℝ) : EReal) := fun i => by
    rw [ha i, ← EReal.coe_sub, Ideal.exp_coe]
  rw [hk, max_eq_right bot_le]
  simp only [he, ← coe_sum]
  exact average _ (fun i => Real.exp_pos _) v

/-- A softmax row in base 2 whose scores are those in base e over the logarithm of 2, the weights summed as a product
    with ones. -/
theorem row_exp2 [Nonempty ι] (s s' : ι → EReal) (a : ι → ℝ) (hs : ∀ i, s i = (a i : EReal))
    (hs' : ∀ i, s' i = ((a i * (Real.log 2)⁻¹ : ℝ) : EReal)) (v : ι → EReal) :
    Ideal.div (∑ i, Ideal.exp2 (s' i - Finset.univ.fold max ⊥ s') * v i)
        (∑ i, Ideal.exp2 (s' i - Finset.univ.fold max ⊥ s') * 1)
      = ∑ i, Ideal.div (Ideal.exp (s i - max ⊥ (Finset.univ.fold max ⊥ s)))
          (∑ j, Ideal.exp (s j - max ⊥ (Finset.univ.fold max ⊥ s))) * v i := by
  obtain ⟨k, hk, hle⟩ := fold_max_real s a hs
  obtain ⟨k', hk', hle'⟩ := fold_max_real s' _ hs'
  have hlog : 0 < Real.log 2 := Real.log_pos (by norm_num)
  have hak : a k' = a k := le_antisymm (hle k') (le_of_mul_le_mul_right (hle' k) (inv_pos.mpr hlog))
  have he : ∀ i, Ideal.exp (s i - (a k : EReal)) = ((Real.exp (a i - a k) : ℝ) : EReal) := fun i => by
    rw [hs i, ← EReal.coe_sub, Ideal.exp_coe]
  have he' : ∀ i, Ideal.exp2 (s' i - ((a k' * (Real.log 2)⁻¹ : ℝ) : EReal)) = ((Real.exp (a i - a k) : ℝ) : EReal) := fun i => by
    rw [hs' i, ← EReal.coe_sub, Ideal.exp2_coe, hak, ← sub_mul]
    congr 1
    rw [show Real.rpow 2 ((a i - a k) * (Real.log 2)⁻¹) = (2 : ℝ) ^ ((a i - a k) * (Real.log 2)⁻¹) from rfl,
      Real.rpow_def_of_pos (by norm_num), mul_comm (Real.log 2), inv_mul_cancel_right₀ hlog.ne']
  rw [hk, hk', max_eq_right bot_le]
  simp only [he, he', mul_one, ← coe_sum]
  exact average _ (fun i => Real.exp_pos _) v

/-- The mean over one group of `n`, taken as a product with a matrix that holds `1 / n` within the group: the sum over
    all columns of the squares, masked, is the quotient of the group's sum. -/
theorem masked_mean {N n : ℕ} (hn : 0 < n) (x : Fin N → EReal) (j : ℕ) (hj : j * n + n ≤ N) (f : Fin N → EReal)
    (hf : ∀ k : Fin N, f k = if k.val / n = j then ((1 / n : ℝ) : EReal) else 0) :
    ∑ k, x k * f k = Ideal.div (∑ t : Fin n, x ⟨j * n + t, by omega⟩) ((n : ℝ) : EReal) := by
  classical
  have hn' : (n : ℝ) ≠ 0 := by positivity
  rw [Ideal.div_coe hn', sum_mul_coe _ _ _ (by positivity)]
  symm
  refine Finset.sum_bij_ne_zero (fun t _ _ => (⟨j * n + t, by omega⟩ : Fin N)) (fun _ _ _ => Finset.mem_univ _)
    (fun a _ _ b _ _ h => by simpa [Fin.ext_iff] using h) (fun k _ hk => ?_) (fun t _ _ => ?_)
  · have hq : k.val / n = j := by
      by_contra hne
      exact hk (by rw [hf k, if_neg hne, mul_zero])
    have hk1 : k.val = j * n + k.val % n := by rw [← hq, mul_comm]; exact (Nat.div_add_mod _ _).symm
    have hk2 : (⟨j * n + k.val % n, by have := Nat.mod_lt k.val hn; omega⟩ : Fin N) = k := Fin.ext hk1.symm
    refine ⟨⟨k.val % n, Nat.mod_lt _ hn⟩, Finset.mem_univ _, ?_, hk2⟩
    rw [hf k, if_pos hq] at hk
    simpa only [hk2] using hk
  · have hq : (j * n + t.val) / n = j := by
      rw [mul_comm, Nat.mul_add_div hn, Nat.div_eq_of_lt t.isLt, add_zero]
    rw [hf, if_pos hq]

end Cert.Softmax

end
-- ==== Proof.AttnRef.lean ====
module

public import proofs.«01_k».proof.Defs
public import proofs.«01_k».proof.Proof.Softmax
public import proofs.«01_k».proof.Proof.Gen.ReferenceIdeal.Run
public import proofs.«01_k».proof.Proof.Gen.ReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! # The attention's reference, read at an element: norms, rotation, scores, weights and the result -/

@[expose] public section

set_option maxRecDepth 16384

noncomputable section

open Idealize.ShloMosaic Idealize.ShloMosaic.TcCoe Idealize.SL.Sem
open Idealize.ShloMosaic.Pipeline (Dat)

namespace Cert.ReferenceIdeal.AttnRef

open Cert.ReferenceIdeal Cert.ReferenceIdeal.Gen
open Cert.ReferenceIdeal.Read

/-- The printed maximum over the last axis, as a fold. -/
theorem max_last (v : FVec Ideal S8x2x4x2048x2048 .f32) (c : FVec Ideal S_ .f32) (h : S8x2x4x2048x2048.Reduces [4] S8x2x4x2048) (i : S8x2x4x2048.Idx) :
    Host.reduce FloatOps.maximumf v c reducesTo_S8x2x4x2048x2048_S8x2x4x2048_d4 h_S_ i
      = (Finset.univ : Finset (Fin (S8x2x4x2048x2048.size 4))).fold FloatOps.maximumf (c (Shape.Idx.first h_S_)) (v ∘ h.lift i) :=
  Host.reduce_eq_fold_single _ v c _ h _ i

/-- The index with the last coordinate put in. -/
theorem lift_last (h : S8x2x4x2048x2048.Reduces [4] S8x2x4x2048) (b : Fin 8) (k : Fin 2) (g : Fin 4) (l t : Fin 2048) :
    h.lift (ix4 b k g l) t = ix5 b k g l t :=
  funext fun a => Fin.ext (by match a with | ⟨0, _⟩ => rfl | ⟨1, _⟩ => rfl | ⟨2, _⟩ => rfl | ⟨3, _⟩ => rfl | ⟨4, _⟩ => rfl)

/-- The maximum at a row, over its elements. -/
theorem max_at (v : FVec Ideal S8x2x4x2048x2048 .f32) (c : FVec Ideal S_ .f32) (b : Fin 8) (k : Fin 2) (g : Fin 4) (l : Fin 2048) :
    Host.reduce FloatOps.maximumf v c reducesTo_S8x2x4x2048x2048_S8x2x4x2048_d4 h_S_ (ix4 b k g l)
      = (Finset.univ : Finset (Fin 2048)).fold FloatOps.maximumf (c (Shape.Idx.first h_S_)) (fun t => v (ix5 b k g l t)) :=
  (max_last v c (by decide) _).trans
    (congrArg (fun f => Finset.fold FloatOps.maximumf _ f (Finset.univ : Finset (Fin 2048)))
      (funext fun t => congrArg v (lift_last _ b k g l t)))

variable (x0 : FVec Ideal S8x2048x7168 .bf16) (x1 x2 : FVec Ideal S64 .f32)

/-- A query entry under the norm of its head. -/
theorem normQ_at (b : Fin 8) (k : Fin 8) (l : Fin 2048) (d : Fin 64) : val_main_v41 (F := Ideal) x0 x1 (ix4 b k l d) =
    x0 (ix3 b l ⟨k * 64 + d, by omega⟩) * Ideal.rsqrt (Ideal.div (∑ x : Fin 64, x0 (ix3 b l ⟨k * 64 + x, by omega⟩) * x0 (ix3 b l ⟨k * 64 + x, by omega⟩))
      (Ideal.ofBits FTy.f32 1115684864#32) + Ideal.ofBits FTy.f32 897988541#32) * x1 (ix1 d) := by
  pointwise [val_main_v41, val_main_v40, val_main_v39, val_main_v38, val_main_v37, val_main_v36, val_main_v35,
    val_main_v34, val_main_v33, val_main_v32, val_main_v31, val_main_v30, val_main_v29, val_main_v28,
    val_main_v27, val_main_v0, val_main_v1, val_main_cst_1, val_main_cst_2, val_main_cst_3]

/-- A key entry under the norm of its head. -/
theorem normK_at (b : Fin 8) (k : Fin 2) (l : Fin 2048) (d : Fin 64) : val_main_v56 (F := Ideal) x0 x2 (ix4 b k l d) =
    x0 (ix3 b l ⟨3584 + (k * 64 + d), by omega⟩) * Ideal.rsqrt (Ideal.div (∑ x : Fin 64, x0 (ix3 b l ⟨3584 + (k * 64 + x), by omega⟩) * x0 (ix3 b l ⟨3584 + (k * 64 + x), by omega⟩))
      (Ideal.ofBits FTy.f32 1115684864#32) + Ideal.ofBits FTy.f32 897988541#32) * x2 (ix1 d) := by
  pointwise [val_main_v56, val_main_v55, val_main_v54, val_main_v53, val_main_v52, val_main_v51, val_main_v50,
    val_main_v49, val_main_v48, val_main_v47, val_main_v46, val_main_v45, val_main_v44, val_main_v43,
    val_main_v42, val_main_v2, val_main_v0, val_main_cst_4, val_main_cst_5, val_main_cst_6]

/-- A rotated query entry: the two halves of each 32 columns turned by the position's angle. -/
theorem rotQ_at (b : Fin 8) (k : Fin 2) (g : Fin 4) (l : Fin 2048) (d : Fin 64) : val_main_v82 (F := Ideal) x0 x1 (ix5 b k g l d) =
    if _ : d.val / 16 % 2 < 1 then
      val_main_v41 (F := Ideal) x0 x1 (ix4 b ⟨k * 4 + g, by omega⟩ l ⟨d / 32 * 32 + d % 16, by omega⟩) * val_main_v25 (F := Ideal) (ix3 l ⟨d / 32, by omega⟩ ⟨d % 16, Nat.mod_lt _ (by decide)⟩)
        - val_main_v41 (F := Ideal) x0 x1 (ix4 b ⟨k * 4 + g, by omega⟩ l ⟨d / 32 * 32 + 16 + d % 16, by omega⟩) * val_main_v26 (F := Ideal) (ix3 l ⟨d / 32, by omega⟩ ⟨d % 16, Nat.mod_lt _ (by decide)⟩)
    else val_main_v41 (F := Ideal) x0 x1 (ix4 b ⟨k * 4 + g, by omega⟩ l ⟨d / 32 * 32 + d % 16, by omega⟩) * val_main_v26 (F := Ideal) (ix3 l ⟨d / 32, by omega⟩ ⟨d % 16, Nat.mod_lt _ (by decide)⟩)
        + val_main_v41 (F := Ideal) x0 x1 (ix4 b ⟨k * 4 + g, by omega⟩ l ⟨d / 32 * 32 + 16 + d % 16, by omega⟩) * val_main_v25 (F := Ideal) (ix3 l ⟨d / 32, by omega⟩ ⟨d % 16, Nat.mod_lt _ (by decide)⟩) := by
  pointwise [val_main_v82, val_main_v81, val_main_v80, val_main_v79, val_main_v78, val_main_v77, val_main_v76,
    val_main_v75, val_main_v74, val_main_v73, val_main_v72, val_main_v71, val_main_v70, val_main_v69,
    val_main_v68, val_main_v67, val_main_v66, val_main_v65, val_main_v64, val_main_v63, val_main_v62,
    val_main_v61, val_main_v60, val_main_v59]

/-- A rotated key entry: the two halves of each 32 columns turned by the position's angle. -/
theorem rotK_at (b : Fin 8) (k : Fin 2) (l : Fin 2048) (d : Fin 64) : val_main_v105 (F := Ideal) x0 x2 (ix4 b k l d) =
    if _ : d.val / 16 % 2 < 1 then
      val_main_v56 (F := Ideal) x0 x2 (ix4 b k l ⟨d / 32 * 32 + d % 16, by omega⟩) * val_main_v25 (F := Ideal) (ix3 l ⟨d / 32, by omega⟩ ⟨d % 16, Nat.mod_lt _ (by decide)⟩)
        - val_main_v56 (F := Ideal) x0 x2 (ix4 b k l ⟨d / 32 * 32 + 16 + d % 16, by omega⟩) * val_main_v26 (F := Ideal) (ix3 l ⟨d / 32, by omega⟩ ⟨d % 16, Nat.mod_lt _ (by decide)⟩)
    else val_main_v56 (F := Ideal) x0 x2 (ix4 b k l ⟨d / 32 * 32 + d % 16, by omega⟩) * val_main_v26 (F := Ideal) (ix3 l ⟨d / 32, by omega⟩ ⟨d % 16, Nat.mod_lt _ (by decide)⟩)
        + val_main_v56 (F := Ideal) x0 x2 (ix4 b k l ⟨d / 32 * 32 + 16 + d % 16, by omega⟩) * val_main_v25 (F := Ideal) (ix3 l ⟨d / 32, by omega⟩ ⟨d % 16, Nat.mod_lt _ (by decide)⟩) := by
  pointwise [val_main_v105, val_main_v104, val_main_v103, val_main_v102, val_main_v101, val_main_v100, val_main_v99,
    val_main_v98, val_main_v97, val_main_v96, val_main_v95, val_main_v94, val_main_v93, val_main_v92,
    val_main_v91, val_main_v90, val_main_v89, val_main_v88, val_main_v87, val_main_v86, val_main_v85,
    val_main_v84, val_main_v83]

/-- A score: the product of a rotated query row and a rotated key row, times 1/8. -/
theorem score_at (b : Fin 8) (k : Fin 2) (g : Fin 4) (l t : Fin 2048) : val_main_v108 (F := Ideal) x0 x1 x2 (ix5 b k g l t) =
    (∑ x : Fin 64, val_main_v82 (F := Ideal) x0 x1 (ix5 b k g l x) * val_main_v105 (F := Ideal) x0 x2 (ix4 b k t x))
      * Ideal.ofBits FTy.f32 0x3E000000#32 := by
  rw [val_main_v108_apply, val_main_v106_apply]
  refine congrArg (· * Ideal.ofBits FTy.f32 0x3E000000#32) (Finset.sum_congr rfl fun x _ => ?_)
  exact congrArg₂ (· * ·) (congrArg _ (by funext a; fin_cases a <;> rfl)) (congrArg _ (by funext a; fin_cases a <;> rfl))

/-- The word of −∞. -/
theorem neg_inf : Ideal.ofBits FTy.f32 4286578688#32 = (⊥ : EReal) := by
  simp [Ideal.ofBits, Ideal.ieee]

/-- The greatest score of a row. -/
theorem top_at (b : Fin 8) (k : Fin 2) (g : Fin 4) (l : Fin 2048) : val_main_v109 (F := Ideal) x0 x1 x2 (ix4 b k g l) =
    Finset.univ.fold max ⊥ fun t => val_main_v108 (F := Ideal) x0 x1 x2 (ix5 b k g l t) := by
  unfold val_main_v109
  generalize val_main_v108 (F := Ideal) x0 x1 x2 = y0
  refine (max_at y0 _ b k g l).trans ?_
  have h : (val_main_cst_8 (F := Ideal)) (Shape.Idx.first h_S_) = (⊥ : EReal) := by
    rw [val_main_cst_8_apply]; exact neg_inf
  rw [h]
  rfl

/-- A numerator of the softmax. -/
theorem num_at (b : Fin 8) (k : Fin 2) (g : Fin 4) (l t : Fin 2048) : val_main_v115 (F := Ideal) x0 x1 x2 (ix5 b k g l t) =
    Ideal.exp (val_main_v108 (F := Ideal) x0 x1 x2 (ix5 b k g l t) - max ⊥
      (val_main_v109 (F := Ideal) x0 x1 x2 (ix4 b k g l))) := by
  have hi : idx_main_v112 (idx_main_v113 (ix5 b k g l t)) = ix4 b k g l := by funext a; fin_cases a <;> rfl
  rw [val_main_v115_apply, val_main_v114_apply, val_main_v113_apply, val_main_v112_apply, hi, val_main_v111_apply,
    val_main_v110_apply, val_main_cst_9_apply]
  simp only [Ideal.hostUnary_exp_def, Ideal.subf_def, Ideal.maximumf_def, Ideal.ofBits_def, neg_inf]

/-- A weight of the softmax. -/
theorem weight_at (b : Fin 8) (k : Fin 2) (g : Fin 4) (l t : Fin 2048) : val_main_v119 (F := Ideal) x0 x1 x2 (ix5 b k g l t) =
    Ideal.div (val_main_v115 (F := Ideal) x0 x1 x2 (ix5 b k g l t)) (val_main_v116 (F := Ideal) x0 x1 x2 (ix4 b k g l)) := by
  have hi : idx_main_v117 (idx_main_v118 (ix5 b k g l t)) = ix4 b k g l := by funext a; fin_cases a <;> rfl
  rw [val_main_v119_apply, val_main_v118_apply, val_main_v117_apply, hi]
  simp only [Ideal.hostDivf_def]

/-- The sum of a row's numerators. -/
theorem den_at (b : Fin 8) (k : Fin 2) (g : Fin 4) (l : Fin 2048) : val_main_v116 (F := Ideal) x0 x1 x2 (ix4 b k g l) =
    ∑ t, val_main_v115 (F := Ideal) x0 x1 x2 (ix5 b k g l t) := by
  rw [val_main_v116_apply, val_main_cst_10_apply]
  refine (congrArg (· + _) Ideal.ofBits_zero_f32).trans ((zero_add _).trans (Finset.sum_congr rfl fun t _ => ?_))
  exact congrArg _ (by funext a; fin_cases a <;> rfl)

/-- A head's result. -/
theorem mix_at (b : Fin 8) (k : Fin 2) (g : Fin 4) (l : Fin 2048) (d : Fin 64) : val_main_v120 (F := Ideal) x0 x1 x2 (ix5 b k g l d) =
    ∑ x : Fin 2048, val_main_v119 (F := Ideal) x0 x1 x2 (ix5 b k g l x) * val_main_v58 (F := Ideal) x0 (ix4 b k x d) := by
  rw [val_main_v120_apply]
  refine Finset.sum_congr rfl fun x _ => ?_
  exact congrArg₂ (· * ·) (congrArg _ (by funext a; fin_cases a <;> rfl)) (congrArg _ (by funext a; fin_cases a <;> rfl))

/-- The result's columns are the heads side by side. -/
theorem out_at (b : Fin 8) (l : Fin 2048) (j : Fin 512) : val_main_v124 (F := Ideal) x0 x1 x2 (ix3 b l j) =
    val_main_v120 (F := Ideal) x0 x1 x2 (ix5 b ⟨j / 64 / 4, by omega⟩ ⟨j / 64 % 4, Nat.mod_lt _ (by decide)⟩ l ⟨j % 64, Nat.mod_lt _ (by decide)⟩) := by
  pointwise [val_main_v124, val_main_v123, val_main_v122, val_main_v121]

/-- A value. -/
theorem value_at (b : Fin 8) (k : Fin 2) (l : Fin 2048) (d : Fin 64) : val_main_v58 (F := Ideal) x0 (ix4 b k l d) =
    x0 (ix3 b l ⟨3712 + (k * 64 + d), by omega⟩) := by
  pointwise [val_main_v58, val_main_v57, val_main_v3, val_main_v0]

end Cert.ReferenceIdeal.AttnRef

end
-- ==== Proof.AttnReal.lean ====
module

public import proofs.«01_k».proof.Defs
public import proofs.«01_k».proof.Proof.Softmax
public import proofs.«01_k».proof.Proof.AttnRef
public import proofs.«01_k».proof.Proof.Gen.ReferenceIdeal.Run
public import proofs.«01_k».proof.Proof.Gen.ReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! # The attention's reference under finite gains: its scores are real numbers -/

@[expose] public section

set_option maxRecDepth 16384

noncomputable section

open Idealize.ShloMosaic Idealize.ShloMosaic.TcCoe Idealize.SL.Sem
open Idealize.ShloMosaic.Pipeline (Dat)

namespace Cert.ReferenceIdeal.AttnRef

open Cert.ReferenceIdeal Cert.ReferenceIdeal.Gen
open Cert.ReferenceIdeal.Read

/-- The word of 64. -/
theorem word_64 : Ideal.ofBits FTy.f32 1115684864#32 = ((64 : ℝ) : EReal) := by
  simp [Ideal.ofBits, Ideal.ieee, -EReal.coe_mul]; norm_num

/-- The word of 16. -/
theorem word_16 : Ideal.ofBits FTy.f32 1098907648#32 = ((16 : ℝ) : EReal) := by
  simp [Ideal.ofBits, Ideal.ieee, -EReal.coe_mul]; norm_num

/-- The word of 10000. -/
theorem word_10000 : Ideal.ofBits FTy.f32 1176256512#32 = ((10000 : ℝ) : EReal) := by
  simp [Ideal.ofBits, Ideal.ieee, -EReal.coe_mul]; norm_num

/-- The word of 1/8. -/
theorem word_eighth : Ideal.ofBits FTy.f32 0x3E000000#32 = ((1 / 8 : ℝ) : EReal) := by
  simp [Ideal.ofBits, Ideal.ieee, -EReal.coe_mul]; norm_num

/-- The word of the norm's constant is a positive real. -/
theorem word_eps : ∃ e : ℝ, 0 < e ∧ Ideal.ofBits FTy.f32 897988541#32 = (e : EReal) := by
  refine ⟨_, ?_, by simp [Ideal.ofBits, Ideal.ieee, -EReal.coe_mul]; rfl⟩
  norm_num

/-- An extended real that is a real number. -/
def IsReal (x : EReal) : Prop := ∃ a : ℝ, x = (a : EReal)

theorem IsReal.mul {x y : EReal} (hx : IsReal x) (hy : IsReal y) : IsReal (x * y) := by
  obtain ⟨a, rfl⟩ := hx; obtain ⟨b, rfl⟩ := hy; exact ⟨a * b, (EReal.coe_mul _ _).symm⟩
theorem IsReal.add {x y : EReal} (hx : IsReal x) (hy : IsReal y) : IsReal (x + y) := by
  obtain ⟨a, rfl⟩ := hx; obtain ⟨b, rfl⟩ := hy; exact ⟨a + b, (EReal.coe_add _ _).symm⟩
theorem IsReal.sub {x y : EReal} (hx : IsReal x) (hy : IsReal y) : IsReal (x - y) := by
  obtain ⟨a, rfl⟩ := hx; obtain ⟨b, rfl⟩ := hy; exact ⟨a - b, (EReal.coe_sub _ _).symm⟩

/-- A position times a frequency is a real number. -/
theorem angle_real (n f : BitVec 32) : IsReal (FloatOps.sitofp (F := Ideal) FTy.f32 n *
    Ideal.pow (Ideal.ofBits FTy.f32 1176256512#32) (Ideal.div (-FloatOps.sitofp (F := Ideal) FTy.f32 f) (Ideal.ofBits FTy.f32 1098907648#32))) := by
  refine IsReal.mul ⟨(n.toInt : ℝ), rfl⟩ ?_
  rw [word_16, word_10000, Ideal.div_coe (by norm_num)]
  obtain ⟨y, hy⟩ : IsReal (-FloatOps.sitofp (F := Ideal) FTy.f32 f * ((1 / 16 : ℝ) : EReal)) :=
    IsReal.mul ⟨-(f.toInt : ℝ), (EReal.coe_neg _).symm⟩ ⟨_, rfl⟩
  rw [hy]
  exact ⟨_, rfl⟩

/-- A cosine of the tables is a real number. -/
theorem cos_real (l : Fin 2048) (d : Fin 2) (f : Fin 16) : IsReal (val_main_v25 (F := Ideal) (ix3 l d f)) := by
  obtain ⟨a, h⟩ := angle_real (if h : d.val < 1 then BitVec.ofNat 32 (l.val / 64) else BitVec.ofNat 32 (l.val % 64)) (BitVec.ofNat 32 f.val)
  refine ⟨Real.cos a, ?_⟩
  pointwise [val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4, val_main_cst, val_main_cst_0]
  exact (congrArg Ideal.cos h).trans (Ideal.cos_coe _)

/-- A sine of the tables is a real number. -/
theorem sin_real (l : Fin 2048) (d : Fin 2) (f : Fin 16) : IsReal (val_main_v26 (F := Ideal) (ix3 l d f)) := by
  obtain ⟨a, h⟩ := angle_real (if h : d.val < 1 then BitVec.ofNat 32 (l.val / 64) else BitVec.ofNat 32 (l.val % 64)) (BitVec.ofNat 32 f.val)
  refine ⟨Real.sin a, ?_⟩
  pointwise [val_main_v26, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4, val_main_cst, val_main_cst_0]
  exact (congrArg Ideal.sin h).trans (Ideal.sin_coe _)

variable (x0 : FVec Ideal S8x2048x7168 .bf16) (x1 x2 : FVec Ideal S64 .f32)

/-- An entry times the reciprocal root of its head's mean square is a real number, whatever the entries. -/
theorem head_real (x : Fin 64 → EReal) (d : Fin 64) : IsReal (x d * Ideal.rsqrt (Ideal.div (∑ j, x j * x j)
    (Ideal.ofBits FTy.f32 1115684864#32) + Ideal.ofBits FTy.f32 897988541#32)) := by
  obtain ⟨e, he, hw⟩ := word_eps
  rw [hw, word_64]
  exact Cert.Softmax.normed_real x 64 e (by norm_num) he d

/-- A rotated query entry is a real number. -/
theorem rotQ_real (h1 : ∀ d : Fin 64, IsReal (x1 (ix1 d))) (b : Fin 8) (k : Fin 2) (g : Fin 4) (l : Fin 2048) (d : Fin 64) :
    IsReal (val_main_v82 (F := Ideal) x0 x1 (ix5 b k g l d)) := by
  have n : ∀ (k : Fin 8) (d : Fin 64), IsReal (val_main_v41 (F := Ideal) x0 x1 (ix4 b k l d)) := fun k d => by
    rw [normQ_at]
    exact IsReal.mul (head_real (fun x : Fin 64 => x0 (ix3 b l ⟨k.val * 64 + x.val, by omega⟩)) d) (h1 d)
  rw [rotQ_at]
  by_cases h : d.val / 16 % 2 < 1
  · rw [dif_pos h]; exact IsReal.sub (IsReal.mul (n _ _) (cos_real _ _ _)) (IsReal.mul (n _ _) (sin_real _ _ _))
  · rw [dif_neg h]; exact IsReal.add (IsReal.mul (n _ _) (sin_real _ _ _)) (IsReal.mul (n _ _) (cos_real _ _ _))

/-- A rotated key entry is a real number. -/
theorem rotK_real (h2 : ∀ d : Fin 64, IsReal (x2 (ix1 d))) (b : Fin 8) (k : Fin 2) (l : Fin 2048) (d : Fin 64) :
    IsReal (val_main_v105 (F := Ideal) x0 x2 (ix4 b k l d)) := by
  have n : ∀ d : Fin 64, IsReal (val_main_v56 (F := Ideal) x0 x2 (ix4 b k l d)) := fun d => by
    rw [normK_at]
    exact IsReal.mul (head_real (fun x : Fin 64 => x0 (ix3 b l ⟨3584 + (k.val * 64 + x.val), by omega⟩)) d) (h2 d)
  rw [rotK_at]
  by_cases h : d.val / 16 % 2 < 1
  · rw [dif_pos h]; exact IsReal.sub (IsReal.mul (n _) (cos_real _ _ _)) (IsReal.mul (n _) (sin_real _ _ _))
  · rw [dif_neg h]; exact IsReal.add (IsReal.mul (n _) (sin_real _ _ _)) (IsReal.mul (n _) (cos_real _ _ _))

/-- A row of weights `2^(score − greatest score)` over the scores in units of log 2, times the values and divided by the
    weights' sum, is the reference's softmax times the values. -/
theorem row (h1 : ∀ d : Fin 64, IsReal (x1 (ix1 d))) (h2 : ∀ d : Fin 64, IsReal (x2 (ix1 d)))
    (b : Fin 8) (k : Fin 2) (g : Fin 4) (l : Fin 2048) (d : Fin 64) (s' v o : Fin 2048 → EReal)
    (hs' : ∀ x, s' x = ∑ z : Fin 64, (val_main_v82 (F := Ideal) x0 x1 (ix5 b k g l z) * (((8 * Real.log 2)⁻¹ : ℝ) : EReal))
      * val_main_v105 (F := Ideal) x0 x2 (ix4 b k x z))
    (hv : ∀ x, v x = val_main_v58 (F := Ideal) x0 (ix4 b k x d)) (ho : ∀ x, o x = 1) :
    Ideal.div (∑ x, Ideal.exp2 (s' x - Finset.univ.fold max ⊥ s') * v x) (∑ x, Ideal.exp2 (s' x - Finset.univ.fold max ⊥ s') * o x)
      = val_main_v120 (F := Ideal) x0 x1 x2 (ix5 b k g l d) := by
  choose A hA using fun z => rotQ_real x0 x1 h1 b k g l z
  choose B hB using fun x z => rotK_real x0 x2 h2 b k x z
  have hs : ∀ x, val_main_v108 (F := Ideal) x0 x1 x2 (ix5 b k g l x) = (((∑ z, A z * B x z) * (1 / 8) : ℝ) : EReal) := fun x => by
    rw [score_at, word_eighth, EReal.coe_mul, Cert.Softmax.coe_sum]
    exact congrArg (· * ((1 / 8 : ℝ) : EReal)) (Finset.sum_congr rfl fun z _ => by rw [hA, hB, EReal.coe_mul])
  have hs2 : ∀ x, s' x = (((∑ z, A z * B x z) * (1 / 8) * (Real.log 2)⁻¹ : ℝ) : EReal) := fun x => by
    have e : (∑ z, A z * B x z) * (1 / 8) * (Real.log 2)⁻¹ = ∑ z, A z * (8 * Real.log 2)⁻¹ * B x z := by
      rw [Finset.sum_mul, Finset.sum_mul]
      exact Finset.sum_congr rfl fun z _ => by rw [mul_inv]; ring
    rw [hs', e, Cert.Softmax.coe_sum]
    exact Finset.sum_congr rfl fun z _ => by rw [hA, hB, EReal.coe_mul, EReal.coe_mul]
  have ho' : o = fun _ => 1 := funext ho
  rw [ho', mix_at]
  refine (Cert.Softmax.row_exp2 _ s' _ hs hs2 v).trans (Finset.sum_congr rfl fun x _ => ?_)
  rw [weight_at, den_at, hv]
  simp only [num_at, top_at]

end Cert.ReferenceIdeal.AttnRef

end
-- ==== Proof.Attn.lean ====
module

public import proofs.«01_k».proof.Defs
public import proofs.«01_k».proof.Proof.Gen.KernelIdeal.Value
public import proofs.«01_k».proof.Proof.AttnTables
public import proofs.«01_k».proof.Proof.AttnPay
public import proofs.«01_k».proof.Proof.AttnReal
public import proofs.«01_k».proof.Proof.Gen.ReferenceIdeal.Run
public import proofs.«01_k».proof.Proof.Gen.ReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! # The attention: the call's result is the reference's under finite gains -/

@[expose] public section

set_option maxRecDepth 16384

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Cert.KernelIdeal.Value
open Cert.ReferenceIdeal.Read Cert.ReferenceIdeal.AttnRef

variable (m : (ℓ : Loc nD τ sig) → Buf (Elt Ideal) ℓ)

/-- A normalised query entry of the call is the reference's. -/
theorem normedQ_eq (a : FVec Ideal S1x1024x512 .bf16) (gm : FVec Ideal S512x512 .bf16) (g : FVec Ideal S1x512 .f32) (r : Fin 1024) (j : Fin 512)
    (x0 : FVec Ideal S8x2048x7168 .bf16) (x1 : FVec Ideal S64 .f32) (b : Fin 8) (l : Fin 2048)
    (ha : ∀ x : Fin 512, a (ix3 (0 : Fin 1) r x) = x0 (ix3 b l ⟨x.val, by omega⟩))
    (hgm : ∀ x : Fin 512, gm (ix2 x j) = if x.val / 64 = j.val / 64 then ((1 / 64 : ℝ) : EReal) else 0)
    (hg : g (ix2 (0 : Fin 1) j) = x1 (ix1 ⟨j.val % 64, Nat.mod_lt _ (by decide)⟩)) :
    normedQ a gm g r j = val_main_v41 (F := Ideal) x0 x1 (ix4 b ⟨j.val / 64, by omega⟩ l ⟨j.val % 64, Nat.mod_lt _ (by decide)⟩) := by
  have hj : x0 (ix3 b l ⟨j.val, by omega⟩) = x0 (ix3 b l ⟨j.val / 64 * 64 + j.val % 64, by omega⟩) :=
    congrArg (fun k : Fin 7168 => x0 (ix3 b l k)) (Fin.ext (by dsimp only; omega))
  have hs := Cert.Softmax.masked_mean (n := 64) (by decide) (fun x : Fin 512 => x0 (ix3 b l ⟨x.val, by omega⟩) * x0 (ix3 b l ⟨x.val, by omega⟩))
    (j.val / 64) (by omega) (fun x => gm (ix2 x j)) (fun x => by rw [hgm]; norm_num)
  rw [normQ_at, word_64]
  unfold normedQ
  rw [hg, ha, hj]
  simp only [ha]
  rw [hs]
  norm_num

/-- A normalised key entry of the call is the reference's. -/
theorem normedK_eq (a : FVec Ideal S1x2048x128 .bf16) (gm : FVec Ideal S128x128 .bf16) (g : FVec Ideal S1x128 .f32) (l : Fin 2048) (j : Fin 128)
    (x0 : FVec Ideal S8x2048x7168 .bf16) (x2 : FVec Ideal S64 .f32) (b : Fin 8)
    (ha : ∀ x : Fin 128, a (ix3 (0 : Fin 1) l x) = x0 (ix3 b l ⟨3584 + x.val, by omega⟩))
    (hgm : ∀ x : Fin 128, gm (ix2 x j) = if x.val / 64 = j.val / 64 then ((1 / 64 : ℝ) : EReal) else 0)
    (hg : g (ix2 (0 : Fin 1) j) = x2 (ix1 ⟨j.val % 64, Nat.mod_lt _ (by decide)⟩)) :
    normedK a gm g l j = val_main_v56 (F := Ideal) x0 x2 (ix4 b ⟨j.val / 64, by omega⟩ l ⟨j.val % 64, Nat.mod_lt _ (by decide)⟩) := by
  have hj : x0 (ix3 b l ⟨3584 + j.val, by omega⟩) = x0 (ix3 b l ⟨3584 + (j.val / 64 * 64 + j.val % 64), by omega⟩) :=
    congrArg (fun k : Fin 7168 => x0 (ix3 b l k)) (Fin.ext (by dsimp only; omega))
  have hs := Cert.Softmax.masked_mean (n := 64) (by decide) (fun x : Fin 128 => x0 (ix3 b l ⟨3584 + x.val, by omega⟩) * x0 (ix3 b l ⟨3584 + x.val, by omega⟩))
    (j.val / 64) (by omega) (fun x => gm (ix2 x j)) (fun x => by rw [hgm]; norm_num)
  rw [normK_at, word_64]
  unfold normedK
  rw [hg, ha, hj]
  simp only [ha]
  rw [hs]
  norm_num

/-- The turn of one entry, in both spellings: three terms of which one vanishes, and two terms by cases. -/
theorem turn (d : Fin 64) (l : Fin 2048) (nc nh nl lo hi C A B : EReal)
    (hC : C = pairT cosT cosT (ix2 l d)) (hA : A = pairT (Host.negf sinT) zeroT (ix2 l d)) (hB : B = pairT zeroT sinT (ix2 l d))
    (h1 : d.val / 16 % 2 < 1 → nc = lo ∧ nh = hi) (h2 : ¬ d.val / 16 % 2 < 1 → nc = hi ∧ nl = lo) :
    nc * C + nh * A + nl * B = if _ : d.val / 16 % 2 < 1 then
      lo * cosT (ix3 l ⟨d.val / 32, by omega⟩ ⟨d.val % 16, Nat.mod_lt _ (by decide)⟩) - hi * sinT (ix3 l ⟨d.val / 32, by omega⟩ ⟨d.val % 16, Nat.mod_lt _ (by decide)⟩)
    else lo * sinT (ix3 l ⟨d.val / 32, by omega⟩ ⟨d.val % 16, Nat.mod_lt _ (by decide)⟩) + hi * cosT (ix3 l ⟨d.val / 32, by omega⟩ ⟨d.val % 16, Nat.mod_lt _ (by decide)⟩) := by
  have z : ∀ i, zeroT i = 0 := fun i => Ideal.ofBits_zero_f32
  rw [pairT_at] at hC hA hB
  by_cases h : d.val / 16 % 2 < 1
  · have h' : d.val % 32 < 16 := by omega
    obtain ⟨rfl, rfl⟩ := h1 h
    have e : (⟨d.val % 32, h'⟩ : Fin 16) = ⟨d.val % 16, Nat.mod_lt _ (by decide)⟩ := Fin.ext (by dsimp only; omega)
    rw [dif_pos h', e] at hC hA hB
    rw [dif_pos h, hB, z, mul_zero, add_zero, hA, hC]
    exact (congrArg (nc * _ + ·) (mul_neg _ _)).trans (sub_eq_add_neg _ _).symm
  · have h' : ¬ d.val % 32 < 16 := by omega
    obtain ⟨rfl, rfl⟩ := h2 h
    have e : (⟨d.val % 32 - 16, by omega⟩ : Fin 16) = ⟨d.val % 16, Nat.mod_lt _ (by decide)⟩ := Fin.ext (by dsimp only; omega)
    rw [dif_neg h', e] at hC hA hB
    rw [dif_neg h, hA, z, mul_zero, add_zero, hB, hC]
    exact add_comm _ _

/-- A query entry of the call is the reference's rotated entry, scaled. -/
theorem query (a : FVec Ideal S1x1024x512 .bf16) (gm : FVec Ideal S512x512 .bf16) (g : FVec Ideal S1x512 .f32) (C A B : FVec Ideal S1024x512 .f32)
    (r : Fin 1024) (j : Fin 512) (x0 : FVec Ideal S8x2048x7168 .bf16) (x1 : FVec Ideal S64 .f32) (b : Fin 8) (l : Fin 2048)
    (ha : ∀ x : Fin 512, a (ix3 (0 : Fin 1) r x) = x0 (ix3 b l ⟨x.val, by omega⟩))
    (hgm : ∀ x j : Fin 512, gm (ix2 x j) = if x.val / 64 = j.val / 64 then ((1 / 64 : ℝ) : EReal) else 0)
    (hg : ∀ j : Fin 512, g (ix2 (0 : Fin 1) j) = x1 (ix1 ⟨j.val % 64, Nat.mod_lt _ (by decide)⟩))
    (hC : C (ix2 r j) = tileQ (pairT cosT cosT) (ix2 l j)) (hA : A (ix2 r j) = tileQ (pairT (Host.negf sinT) zeroT) (ix2 l j))
    (hB : B (ix2 r j) = tileQ (pairT zeroT sinT) (ix2 l j)) (k : Fin 2) (q : Fin 4) (d : Fin 64) (h : j.val = (k.val * 4 + q.val) * 64 + d.val) :
    k0_pay6 (F := Ideal) a gm g C A B (ix2 r j) = val_main_v82 (F := Ideal) x0 x1 (ix5 b k q l d) * (((8 * Real.log 2)⁻¹ : ℝ) : EReal) := by
  have hd : (⟨j.val % 64, Nat.mod_lt _ (by decide)⟩ : Fin 64) = d := Fin.ext (by dsimp only; omega)
  have n : ∀ (i : Fin 512) (e : Fin 64), i.val = (k.val * 4 + q.val) * 64 + e.val →
      normedQ a gm g r i = val_main_v41 (F := Ideal) x0 x1 (ix4 b ⟨k.val * 4 + q.val, by omega⟩ l e) := fun i e hi => by
    rw [normedQ_eq a gm g r i x0 x1 b l ha (fun x => hgm x i) (hg i)]
    exact congrArg₂ (fun k e => val_main_v41 (F := Ideal) x0 x1 (ix4 b k l e)) (Fin.ext (by dsimp only; omega)) (Fin.ext (by dsimp only; omega))
  rw [tileQ_at, hd] at hC hA hB
  have T := turn d l (normedQ a gm g r j) (normedQ a gm g r ⟨(j.val + 512 - 496) % 512, Nat.mod_lt _ (by decide)⟩)
    (normedQ a gm g r ⟨(j.val + 512 - 16) % 512, Nat.mod_lt _ (by decide)⟩)
    (val_main_v41 (F := Ideal) x0 x1 (ix4 b ⟨k.val * 4 + q.val, by omega⟩ l ⟨d.val / 32 * 32 + d.val % 16, by omega⟩))
    (val_main_v41 (F := Ideal) x0 x1 (ix4 b ⟨k.val * 4 + q.val, by omega⟩ l ⟨d.val / 32 * 32 + 16 + d.val % 16, by omega⟩)) _ _ _ hC hA hB
    (fun h' => ⟨n _ _ (by dsimp only; omega), n _ _ (by dsimp only; omega)⟩)
    (fun h' => ⟨n _ _ (by dsimp only; omega), n _ _ (by dsimp only; omega)⟩)
  rw [pay6_at, rotQ_at, T]

/-- A key entry of the call's scratch is the reference's rotated entry. -/
theorem key (a : FVec Ideal S1x2048x128 .bf16) (gm : FVec Ideal S128x128 .bf16) (g : FVec Ideal S1x128 .f32) (C A B : FVec Ideal S2048x128 .f32)
    (l : Fin 2048) (j : Fin 128) (x0 : FVec Ideal S8x2048x7168 .bf16) (x2 : FVec Ideal S64 .f32) (b : Fin 8)
    (ha : ∀ x : Fin 128, a (ix3 (0 : Fin 1) l x) = x0 (ix3 b l ⟨3584 + x.val, by omega⟩))
    (hgm : ∀ x j : Fin 128, gm (ix2 x j) = if x.val / 64 = j.val / 64 then ((1 / 64 : ℝ) : EReal) else 0)
    (hg : ∀ j : Fin 128, g (ix2 (0 : Fin 1) j) = x2 (ix1 ⟨j.val % 64, Nat.mod_lt _ (by decide)⟩))
    (hC : C (ix2 l j) = tileK (pairT cosT cosT) (ix2 l j)) (hA : A (ix2 l j) = tileK (pairT (Host.negf sinT) zeroT) (ix2 l j))
    (hB : B (ix2 l j) = tileK (pairT zeroT sinT) (ix2 l j)) (k : Fin 2) (d : Fin 64) (h : j.val = k.val * 64 + d.val) :
    k0_pay2 (F := Ideal) a gm g C A B (ix2 l j) = val_main_v105 (F := Ideal) x0 x2 (ix4 b k l d) := by
  have hd : (⟨j.val % 64, Nat.mod_lt _ (by decide)⟩ : Fin 64) = d := Fin.ext (by dsimp only; omega)
  have n : ∀ (i : Fin 128) (e : Fin 64), i.val = k.val * 64 + e.val →
      normedK a gm g l i = val_main_v56 (F := Ideal) x0 x2 (ix4 b k l e) := fun i e hi => by
    rw [normedK_eq a gm g l i x0 x2 b ha (fun x => hgm x i) (hg i)]
    exact congrArg₂ (fun k e => val_main_v56 (F := Ideal) x0 x2 (ix4 b k l e)) (Fin.ext (by dsimp only; omega)) (Fin.ext (by dsimp only; omega))
  rw [tileK_at, hd] at hC hA hB
  have T := turn d l (normedK a gm g l j) (normedK a gm g l ⟨(j.val + 128 - 112) % 128, Nat.mod_lt _ (by decide)⟩)
    (normedK a gm g l ⟨(j.val + 128 - 16) % 128, Nat.mod_lt _ (by decide)⟩)
    (val_main_v56 (F := Ideal) x0 x2 (ix4 b k l ⟨d.val / 32 * 32 + d.val % 16, by omega⟩))
    (val_main_v56 (F := Ideal) x0 x2 (ix4 b k l ⟨d.val / 32 * 32 + 16 + d.val % 16, by omega⟩)) _ _ _ hC hA hB
    (fun h' => ⟨n _ _ (by dsimp only; omega), n _ _ (by dsimp only; omega)⟩)
    (fun h' => ⟨n _ _ (by dsimp only; omega), n _ _ (by dsimp only; omega)⟩)
  rw [pay2_at, rotK_at, T]

/-- A block of queries, keys and values of batch `b`, at a row and a column of the result. -/
theorem cell (q : FVec Ideal S1024x512 .bf16) (K : FVec Ideal S2048x128 .bf16) (X : FVec Ideal S2048x256 .bf16)
    (x0 : FVec Ideal S8x2048x7168 .bf16) (x1 x2 : FVec Ideal S64 .f32) (h1 : ∀ d : Fin 64, IsReal (x1 (ix1 d))) (h2 : ∀ d : Fin 64, IsReal (x2 (ix1 d)))
    (b : Fin 8) (l : Fin 2048) (r : Fin 1024) (j : Fin 512)
    (hq : ∀ (j : Fin 512) (k : Fin 2) (g : Fin 4) (d : Fin 64), j.val = (k.val * 4 + g.val) * 64 + d.val →
      q (ix2 r j) = val_main_v82 (F := Ideal) x0 x1 (ix5 b k g l d) * (((8 * Real.log 2)⁻¹ : ℝ) : EReal))
    (hK : ∀ (t : Fin 2048) (j : Fin 128) (k : Fin 2) (d : Fin 64), j.val = k.val * 64 + d.val →
      K (ix2 t j) = val_main_v105 (F := Ideal) x0 x2 (ix4 b k t d))
    (hX : ∀ (t : Fin 2048) (j : Fin 256), X (ix2 t j) = if h : j.val % 128 < 64 then x0 (ix3 b t ⟨3712 + (j.val / 128 * 64 + j.val % 128), by omega⟩) else 1) :
    heads q K X (ix3 (0 : Fin 1) r j) = val_main_v124 (F := Ideal) x0 x1 x2 (ix3 b l j) := by
  rw [heads_at, out_at]
  refine Eq.trans ?_ (row x0 x1 x2 h1 h2 b ⟨j.val / 64 / 4, by omega⟩ ⟨j.val / 64 % 4, Nat.mod_lt _ (by decide)⟩ l ⟨j.val % 64, Nat.mod_lt _ (by decide)⟩
    (fun x => ∑ z : Fin 64, q (ix2 r ⟨j.val / 64 * 64 + z.val, by omega⟩) * K (ix2 x ⟨j.val / 256 * 64 + z.val, by omega⟩))
    (fun x => X (ix2 x ⟨j.val / 256 * 128 + j.val % 64, by omega⟩)) (fun x => X (ix2 x ⟨j.val / 256 * 128 + 64 + j.val % 64, by omega⟩)) ?_ ?_ ?_)
  · unfold headVal
    rw [neg_inf]
    rfl
  · intro x
    exact Finset.sum_congr rfl fun z _ => congrArg₂ (· * ·) (hq _ _ _ z (by dsimp only; omega)) (hK x _ _ z (by dsimp only; omega))
  · intro x
    rw [hX, dif_pos (by dsimp only; omega), value_at]
    exact congrArg (fun k : Fin 7168 => x0 (ix3 b x k)) (Fin.ext (by dsimp only; omega))
  · intro x
    rw [hX, dif_neg (by dsimp only; omega)]

/-- Which block of each array a point reads or writes. -/
theorem idx : ∀ t : Fin cfg0.N, win0_0.index t = ![t.val / 2, t.val % 2, 0] ∧ win0_1.index t = ![t.val / 2, 0, 28]
    ∧ win0_2.index t = ![t.val / 2, 0, 29] ∧ win0_3.index t = ![0, 0] ∧ win0_4.index t = ![0, 0] ∧ win0_5.index t = ![t.val % 2, 0]
    ∧ win0_6.index t = ![t.val % 2, 0] ∧ win0_7.index t = ![t.val % 2, 0] ∧ win0_8.index t = ![0, 0] ∧ win0_9.index t = ![0, 0]
    ∧ win0_10.index t = ![0, 0] ∧ win0_11.index t = ![0, 0] ∧ win0_12.index t = ![0, 0] ∧ win0_13.index t = ![t.val / 2, t.val % 2, 0] :=
  (by decide +kernel : ∀ t : Fin grid0.N, _)

/-- The blocks a point reads, at its batch `b` and, for the queries, its position `l`. -/
theorem blk0 (c : Dev nD) (t : Fin cfg0.N) (b : Fin 8) (l : Fin 2048) (r : Fin 1024) (hb : b.val = t.val / 2) (hl : l.val = t.val % 2 * 1024 + r.val)
    (x : Fin 512) : iblk m c 0 t (ix3 (0 : Fin 1) r x) = (m ((c : Thread nD τ).loc main_arg0) : FVec Ideal S8x2048x7168 .bf16) (ix3 b l ⟨x.val, by omega⟩) := by
  blk_point [iblk, V, idx t]
@[inherit_doc blk0]
theorem blk1 (c : Dev nD) (t : Fin cfg0.N) (b : Fin 8) (hb : b.val = t.val / 2) (l : Fin 2048)
    (x : Fin 128) : iblk m c 1 t (ix3 (0 : Fin 1) l x) = (m ((c : Thread nD τ).loc main_arg0) : FVec Ideal S8x2048x7168 .bf16) (ix3 b l ⟨3584 + x.val, by omega⟩) := by
  blk_point [iblk, V, idx t]
@[inherit_doc blk0]
theorem blk2 (c : Dev nD) (t : Fin cfg0.N) (b : Fin 8) (hb : b.val = t.val / 2) (l : Fin 2048)
    (x : Fin 128) : iblk m c 2 t (ix3 (0 : Fin 1) l x) = (m ((c : Thread nD τ).loc main_arg0) : FVec Ideal S8x2048x7168 .bf16) (ix3 b l ⟨3712 + x.val, by omega⟩) := by
  blk_point [iblk, V, idx t]
@[inherit_doc blk0]
theorem blk3 (c : Dev nD) (t : Fin cfg0.N) (j : Fin 512) : iblk m c 3 t (ix2 (0 : Fin 1) j) = (V m c main_v52 : FVec Ideal S1x512 .f32) (ix2 (0 : Fin 1) j) := by
  blk_point [iblk, idx t]
@[inherit_doc blk0]
theorem blk4 (c : Dev nD) (t : Fin cfg0.N) (j : Fin 128) : iblk m c 4 t (ix2 (0 : Fin 1) j) = (V m c main_v56 : FVec Ideal S1x128 .f32) (ix2 (0 : Fin 1) j) := by
  blk_point [iblk, idx t]
@[inherit_doc blk0]
theorem blk5 (c : Dev nD) (t : Fin cfg0.N) (l : Fin 2048) (r : Fin 1024) (hl : l.val = t.val % 2 * 1024 + r.val) (j : Fin 512) :
    iblk m c 5 t (ix2 r j) = (V m c main_v33 : FVec Ideal S2048x512 .f32) (ix2 l j) := by
  blk_point [iblk, idx t]
@[inherit_doc blk0]
theorem blk6 (c : Dev nD) (t : Fin cfg0.N) (l : Fin 2048) (r : Fin 1024) (hl : l.val = t.val % 2 * 1024 + r.val) (j : Fin 512) :
    iblk m c 6 t (ix2 r j) = (V m c main_v36 : FVec Ideal S2048x512 .f32) (ix2 l j) := by
  blk_point [iblk, idx t]
@[inherit_doc blk0]
theorem blk7 (c : Dev nD) (t : Fin cfg0.N) (l : Fin 2048) (r : Fin 1024) (hl : l.val = t.val % 2 * 1024 + r.val) (j : Fin 512) :
    iblk m c 7 t (ix2 r j) = (V m c main_v39 : FVec Ideal S2048x512 .f32) (ix2 l j) := by
  blk_point [iblk, idx t]
@[inherit_doc blk0]
theorem blk8 (c : Dev nD) (t : Fin cfg0.N) (l : Fin 2048) (j : Fin 128) : iblk m c 8 t (ix2 l j) = (V m c main_v42 : FVec Ideal S2048x128 .f32) (ix2 l j) := by
  blk_point [iblk, idx t]
@[inherit_doc blk0]
theorem blk9 (c : Dev nD) (t : Fin cfg0.N) (l : Fin 2048) (j : Fin 128) : iblk m c 9 t (ix2 l j) = (V m c main_v45 : FVec Ideal S2048x128 .f32) (ix2 l j) := by
  blk_point [iblk, idx t]
@[inherit_doc blk0]
theorem blk10 (c : Dev nD) (t : Fin cfg0.N) (l : Fin 2048) (j : Fin 128) : iblk m c 10 t (ix2 l j) = (V m c main_v48 : FVec Ideal S2048x128 .f32) (ix2 l j) := by
  blk_point [iblk, idx t]
@[inherit_doc blk0]
theorem blk11 (c : Dev nD) (t : Fin cfg0.N) (l : Fin 512) (j : Fin 512) : iblk m c 11 t (ix2 l j) = (V m c main_v65 : FVec Ideal S512x512 .bf16) (ix2 l j) := by
  blk_point [iblk, idx t]
@[inherit_doc blk0]
theorem blk12 (c : Dev nD) (t : Fin cfg0.N) (l : Fin 128) (j : Fin 128) : iblk m c 12 t (ix2 l j) = (V m c main_v74 : FVec Ideal S128x128 .bf16) (ix2 l j) := by
  blk_point [iblk, idx t]

/-- Every point writes back its block of queries over the keys and values of its batch, which the batch's first point left. -/
theorem stored (c : Dev nD) (s t : Fin cfg0.N) (hs : s.val = 2 * (t.val / 2)) :
    (outsAt0 m c t.val t.isLt).1 = heads
      (k0_pay6 (iblk m c 0 t) (iblk m c 11 t) (iblk m c 3 t) (iblk m c 5 t) (iblk m c 6 t) (iblk m c 7 t))
      (k0_pay2 (iblk m c 1 s) (iblk m c 12 s) (iblk m c 4 s) (iblk m c 8 s) (iblk m c 9 s) (iblk m c 10 s))
      (k0_pay5 (k0_pay3 (iblk m c 2 s)) k0_pay4) := by
  by_cases h0 : t.val % 2 = 0
  · have e : s = t := Fin.ext (by omega)
    subst e
    exact first m c s h0
  · obtain ⟨s, hs'⟩ := s
    dsimp only at hs
    have e : s = t.val - 1 := by omega
    subst e
    rw [second m c t h0, keys m c ⟨t.val - 1, hs'⟩ (by dsimp only; omega), values m c ⟨t.val - 1, hs'⟩ (by dsimp only; omega)]

/-- What a point writes back at a row and a column is the reference's result there. -/
theorem point (c : Dev nD) (s t : Fin cfg0.N) (hs : s.val = 2 * (t.val / 2))
    (h1 : ∀ d : Fin 64, IsReal ((m ((c : Thread nD τ).loc main_arg1) : FVec Ideal S64 .f32) (ix1 d)))
    (h2 : ∀ d : Fin 64, IsReal ((m ((c : Thread nD τ).loc main_arg2) : FVec Ideal S64 .f32) (ix1 d)))
    (b : Fin 8) (l : Fin 2048) (r : Fin 1024) (j : Fin 512) (hb : b.val = t.val / 2) (hl : l.val = t.val % 2 * 1024 + r.val) :
    heads
      (k0_pay6 (iblk m c 0 t) (iblk m c 11 t) (iblk m c 3 t) (iblk m c 5 t) (iblk m c 6 t) (iblk m c 7 t))
      (k0_pay2 (iblk m c 1 s) (iblk m c 12 s) (iblk m c 4 s) (iblk m c 8 s) (iblk m c 9 s) (iblk m c 10 s))
      (k0_pay5 (k0_pay3 (iblk m c 2 s)) k0_pay4) (ix3 (0 : Fin 1) r j)
    = val_main_v124 (F := Ideal) (m ((c : Thread nD τ).loc main_arg0)) (m ((c : Thread nD τ).loc main_arg1))
        (m ((c : Thread nD τ).loc main_arg2)) (ix3 b l j) := by
  have hb' : b.val = s.val / 2 := by omega
  refine cell _ _ _ _ _ _ h1 h2 b l r j (fun j k g d h => ?_) (fun t' j k d h => ?_) fun t' j => ?_
  · exact query _ _ _ _ _ _ r j _ _ b l (blk0 m c t b l r hb hl) (fun x j => (blk11 m c t x j).trans (v65_at m c x j))
      (fun j => (blk3 m c t j).trans (v52_at m c j)) ((blk5 m c t l r hl j).trans (congrFun (v33_eq m c) _))
      ((blk6 m c t l r hl j).trans (congrFun (v36_eq m c) _)) ((blk7 m c t l r hl j).trans (congrFun (v39_eq m c) _)) k g d h
  · exact key _ _ _ _ _ _ t' j _ _ b (blk1 m c s b hb' t') (fun x j => (blk12 m c s x j).trans (v74_at m c x j))
      (fun j => (blk4 m c s j).trans (v56_at m c j)) ((blk8 m c s t' j).trans (congrFun (v42_eq m c) _))
      ((blk9 m c s t' j).trans (congrFun (v45_eq m c) _)) ((blk10 m c s t' j).trans (congrFun (v48_eq m c) _)) k d h
  · refine (pay5_at _ t' j).trans ?_
    by_cases h : j.val % 128 < 64
    · rw [dif_pos h, dif_pos h]; exact blk2 m c s b hb' t' _
    · rw [dif_neg h, dif_neg h]

/-- The result array after the run is the reference's result. -/
theorem final (c : Dev nD)
    (h1 : ∀ d : Fin 64, IsReal ((m ((c : Thread nD τ).loc main_arg1) : FVec Ideal S64 .f32) (ix1 d)))
    (h2 : ∀ d : Fin 64, IsReal ((m ((c : Thread nD τ).loc main_arg2) : FVec Ideal S64 .f32) (ix1 d))) :
    (dats m 0 c).arrAt 13 (cfgs 0).N
    = val_main_v124 (F := Ideal) (m ((c : Thread nD τ).loc main_arg0)) (m ((c : Thread nD τ).loc main_arg1))
        (m ((c : Thread nD τ).loc main_arg2)) := by
  refine (dats m 0 c).arrAt_eq_of_covers 13 _ (by decide +kernel) fun t hf y => ?_
  blk_simp
  rw [after0_13, stored m c ⟨2 * (t.val / 2), Nat.lt_of_le_of_lt (Nat.mul_div_le _ _) t.isLt⟩ t rfl]
  have ht : t.val < 16 := lt_of_lt_of_eq t.isLt N_0
  have y1 : (y 1).val < 1024 := (y 1).isLt
  have hy : y = ix3 (0 : Fin 1) (y 1) (y 2) := by
    funext a; fin_cases a
    · exact Fin.ext (Nat.lt_one_iff.mp (y 0).isLt)
    · rfl
    · rfl
  have he : ((cfg0.win 13).blk t).view.emb y = ix3 (⟨t.val / 2, by omega⟩ : Fin 8) (⟨t.val % 2 * 1024 + (y 1).val, by omega⟩ : Fin 2048) (y 2) := by
    funext a; fin_cases a <;> apply Fin.ext <;> simp [idx t] <;> omega
  refine (congrArg _ hy).trans ((point m c _ t rfl h1 h2 ⟨t.val / 2, by omega⟩ ⟨t.val % 2 * 1024 + (y 1).val, by omega⟩ (y 1) (y 2) rfl rfl).trans (congrArg _ he.symm))

end Cert.KernelIdeal.AttnValue

end
-- ==== Proof.Mlp.lean ====
/- The value of the squared-relu mlp: at the extended reals the kernel's result array is the reference's. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.MlpValue

open Cert.Kernel2Ideal Cert.Kernel2Ideal.Gen Cert.Kernel2Ideal.Value
open Cert.Reference2Ideal.Read

variable (m : (ℓ : Loc nD τ sig) → Buf (Elt Ideal) ℓ)

/-- The block index of every window at grid point `t`: two points run over one token block, one for each half of the
    hidden units. -/
theorem idx : ∀ t : Fin cfg0.N, win0_0.index t = ![t.val / 2, 0] ∧ win0_1.index t = ![0, 0]
    ∧ win0_2.index t = ![0, t.val % 2] ∧ win0_3.index t = ![t.val % 2, 0] ∧ win0_4.index t = ![t.val / 2, 0] :=
  (by decide +kernel : ∀ t : Fin grid0.N, _)

/-- The first point of a token block leaves the normalised rows in the first scratch. -/
theorem rows (c : Dev nD) (s : Fin cfg0.N) (h0 : s.val % 2 = 0) :
    (outsAt0 m c s.val s.isLt).2.1 = k0_pay1 (iblk m c 0 s) (iblk m c 1 s) := by
  rw [outsAt0_A m c s h0 (by omega)]; frame_out

/-- The first point of a token block leaves the first half's product, added to zero, in the second scratch. -/
theorem half (c : Dev nD) (s : Fin cfg0.N) (h0 : s.val % 2 = 0) :
    (outsAt0 m c s.val s.isLt).2.2 = k0_pay3 (k0_pay1 (iblk m c 0 s) (iblk m c 1 s)) (iblk m c 2 s) (k0_pay2 (F := Ideal)) (iblk m c 3 s) := by
  rw [outsAt0_A m c s h0 (by omega)]; frame_out

/-- The second point of a token block writes back the block plus both halves' products. -/
theorem stored (c : Dev nD) (s t : Fin cfg0.N) (h0 : t.val % 2 = 1) (hs : s.val = t.val - 1) :
    (outsAt0 m c t.val t.isLt).1 = k0_pay4 (iblk m c 0 t) (k0_pay3 (k0_pay1 (iblk m c 0 s) (iblk m c 1 s)) (iblk m c 2 t)
      (k0_pay3 (k0_pay1 (iblk m c 0 s) (iblk m c 1 s)) (iblk m c 2 s) (k0_pay2 (F := Ideal)) (iblk m c 3 s)) (iblk m c 3 t)) := by
  obtain ⟨s, hs'⟩ := s
  dsimp only at hs
  subst hs
  rw [outsAt0_B m c t (by omega) h0, rows m c ⟨t.val - 1, hs'⟩ (by dsimp only; omega), half m c ⟨t.val - 1, hs'⟩ (by dsimp only; omega)]
  frame_out
  simp only [read_unread_whole]

/-- A sum over the hidden units is the sum over the first half plus the sum over the second. -/
theorem sum_halves (f : Fin 4096 → EReal) :
    ∑ x : Fin 4096, f x = ∑ x : Fin 2048, f ⟨x.val, by omega⟩ + ∑ x : Fin 2048, f ⟨2048 + x.val, by omega⟩ :=
  Fin.sum_univ_add (a := 2048) (b := 2048) f

set_option maxHeartbeats 1600000 in
/-- What the second point of a token block writes back at index `y` is the reference's result there. -/
theorem point (c : Dev nD) (s t : Fin cfg0.N) (h0 : t.val % 2 = 1) (hs : s.val = t.val - 1) (y : S1024x1024.Idx) :
    k0_pay4 (iblk m c 0 t) (k0_pay3 (k0_pay1 (iblk m c 0 s) (iblk m c 1 s)) (iblk m c 2 t)
      (k0_pay3 (k0_pay1 (iblk m c 0 s) (iblk m c 1 s)) (iblk m c 2 s) (k0_pay2 (F := Ideal)) (iblk m c 3 s)) (iblk m c 3 t)) y
    = val_main_v17 (F := Ideal) (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, k0_pay2, k0_pay3, k0_pay4, val_main_v17, val_main_v16, val_main_v15, val_main_v14, val_main_call0_v0,
    val_main_call0_cst, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  rw [sum_halves]
  blk_point [iblk, V, idx t, idx s]

/-- The result array after the run is the reference's result. -/
theorem final (c : Dev nD) : (dats m 0 c).arrAt 4 (cfgs 0).N
    = val_main_v17 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have ht : t.val % 2 = 1 := (flush0_4 t).mp hf
  blk_simp
  rw [after0_4, stored m c ⟨t.val - 1, Nat.lt_of_le_of_lt (Nat.sub_le _ _) t.isLt⟩ t ht rfl]
  exact point m c _ t ht rfl y

end Cert.Kernel2Ideal.MlpValue

end
-- ==== Proof.InProj.lean ====
/- The value of the normalised in-projection: at the extended reals the kernel's result array is the reference's. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.InProjValue

open Cert.Kernel3Ideal Cert.Kernel3Ideal.Gen Cert.Kernel3Ideal.Value
open Cert.Reference3Ideal.Read

variable (m : (ℓ : Loc nD τ sig) → Buf (Elt Ideal) ℓ)

/-- The block index of every window at grid point `t`: two points run over one token block, one for each half of the
    packed columns. -/
theorem idx : ∀ t : Fin cfg0.N, win0_0.index t = ![t.val / 2, 0] ∧ win0_1.index t = ![0, 0]
    ∧ win0_2.index t = ![0, 0, t.val % 2] ∧ win0_3.index t = ![t.val / 2, t.val % 2] :=
  (by decide +kernel : ∀ t : Fin grid0.N, _)

/-- The first point of a token block leaves the normalised rows in the scratch. -/
theorem rows (c : Dev nD) (s : Fin cfg0.N) (h0 : s.val % 2 = 0) :
    (outsAt0 m c s.val s.isLt).2 = k0_pay1 (iblk m c 0 s) (iblk m c 1 s) := by
  rw [outsAt0_A m c s h0]; frame_out

/-- Every point writes back the normalised rows of its token block times its half of the packed columns. -/
theorem stored (c : Dev nD) (s t : Fin cfg0.N) (hs : s.val = 2 * (t.val / 2)) :
    (outsAt0 m c t.val t.isLt).1 = k0_pay2 (k0_pay1 (iblk m c 0 s) (iblk m c 1 s)) (iblk m c 2 t) := by
  by_cases h0 : t.val % 2 = 0
  · have e : s = t := Fin.ext (by omega)
    subst e
    rw [outsAt0_A m c s h0]; frame_out
  · obtain ⟨s, hs'⟩ := s
    dsimp only at hs
    have e : s = t.val - 1 := by omega
    subst e
    rw [outsAt0_B m c t h0, rows m c ⟨t.val - 1, hs'⟩ (by dsimp only; omega)]
    frame_out
    simp only [read_unread_whole]

/-- The packed weights `z` with the piece `x` written over them from the index `at'` on. -/
abbrev put {u : Shape} (z : FVec Ideal S2x1024x7168 .bf16) (x : FVec Ideal u .bf16) (at' : Fin 3 → Nat)
    (h : S2x1024x7168.Slices at' u) : FVec Ideal S2x1024x7168 .bf16 := updateSlice z x at' h

/-- The packed weights are zeros with five slots written. -/
theorem packed (c : Dev nD) : (V m c main_v15 : FVec Ideal S2x1024x7168 .bf16)
    = put (u := S2x1024x3072) (put (u := S2x1024x32) (put (u := S2x1024x3072) (put (u := S2x1024x256)
        (put (u := S2x1024x512) (V m c main_v0)
        (V m c main_v2) ![0, 0, 0] (by decide))
        (V m c main_v5) ![0, 0, 3584] (by decide))
        (V m c main_v8) ![0, 0, 512] (by decide))
        (V m c main_v11) ![0, 0, 3840] (by decide))
        (V m c main_v14) ![0, 0, 4096] (by decide) := by
  unfold V
  after_results
  refine (Host.dynamicUpdateSlice_eq_updateSlice _ _ _ _ ![0, 0, 4096] (fun a => ?_) (by decide)).trans ?_
  · fin_cases a <;> rfl
  refine congrArg (fun z : FVec Ideal S2x1024x7168 .bf16 => updateSlice z _ _ _) ?_

  refine (Host.dynamicUpdateSlice_eq_updateSlice _ _ _ _ ![0, 0, 3840] (fun a => ?_) (by decide)).trans ?_
  · fin_cases a <;> rfl
  refine congrArg (fun z : FVec Ideal S2x1024x7168 .bf16 => updateSlice z _ _ _) ?_

  refine (Host.dynamicUpdateSlice_eq_updateSlice _ _ _ _ ![0, 0, 512] (fun a => ?_) (by decide)).trans ?_
  · fin_cases a <;> rfl
  refine congrArg (fun z : FVec Ideal S2x1024x7168 .bf16 => updateSlice z _ _ _) ?_

  refine (Host.dynamicUpdateSlice_eq_updateSlice _ _ _ _ ![0, 0, 3584] (fun a => ?_) (by decide)).trans ?_
  · fin_cases a <;> rfl
  refine congrArg (fun z : FVec Ideal S2x1024x7168 .bf16 => updateSlice z _ _ _) ?_

  refine (Host.dynamicUpdateSlice_eq_updateSlice _ _ _ _ ![0, 0, 0] (fun a => ?_) (by decide)).trans ?_
  · fin_cases a <;> rfl
  rfl

/-- The in-projection's weights `w` at a row and a packed column: each slot's columns are its own columns, moved; the
    columns no slot covers are zero. -/
def packCol (w : FVec Ideal S2x1024x6944 .f32) (x : Fin 1024) (j : Fin 7168) : EReal :=
  if h : 4096 ≤ j.val then w (ix3 (0 : Fin 2) x ⟨3872 + (j.val - 4096), by omega⟩)
  else if h : 3840 ≤ j.val ∧ j.val < 3872 then w (ix3 (0 : Fin 2) x ⟨3840 + (j.val - 3840), by omega⟩)
  else if h : 512 ≤ j.val ∧ j.val < 3584 then w (ix3 (0 : Fin 2) x ⟨768 + (j.val - 512), by omega⟩)
  else if h : 3584 ≤ j.val ∧ j.val < 3840 then w (ix3 (0 : Fin 2) x ⟨512 + (j.val - 3584), by omega⟩)
  else if h : j.val < 512 then w (ix3 (0 : Fin 2) x ⟨j.val, by omega⟩)
  else 0

/-- The packed weights, read at a row and a column. -/
theorem packed_at (c : Dev nD) (x : Fin 1024) (j : Fin 7168) :
    (V m c main_v15 : FVec Ideal S2x1024x7168 .bf16) (ix3 (0 : Fin 2) x j)
    = packCol (m ((c : Thread nD τ).loc main_arg2)) x j := by
  rw [packed]
  unfold put packCol
  pointwise
  split_ifs <;> first | (exfalso; omega) | (entry_read; pointwise; done) | (entry_read; pointwise; rfl)

/-- The weight block a point reads is its half of the packed columns. -/
theorem weights (c : Dev nD) (t : Fin cfg0.N) (x : Fin 1024) (y : S1024x3584.Idx) :
    iblk m c 2 t (ix3 (0 : Fin 1) x (y 1))
    = (V m c main_v15 : FVec Ideal S2x1024x7168 .bf16) (ix3 (0 : Fin 2) x ((((cfg0.win 3).blk t).view.emb y) 1)) := by
  blk_point [iblk, idx t]

/-- The kernel's normalised row times one of the in-projection's own columns is the reference's product there. -/
theorem column (c : Dev nD) (s t : Fin cfg0.N) (hs : s.val = 2 * (t.val / 2)) (y : S1024x3584.Idx) (k : Fin 6944) :
    (∑ x : Fin 1024, k0_pay1 (iblk m c 0 s) (iblk m c 1 s) (ix2 (y 0) x)
      * (m ((c : Thread nD τ).loc main_arg2) : FVec Ideal S2x1024x6944 .f32) (ix3 (0 : Fin 2) x k))
    = val_main_v15 (F := Ideal) (m ((c : Thread nD τ).loc main_arg0)) (m ((c : Thread nD τ).loc main_arg1))
        (m ((c : Thread nD τ).loc main_arg2)) (ix2 ((((cfg0.win 3).blk t).view.emb y) 0) k) := by
  pointwise [k0_pay1, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  blk_point [iblk, V, idx s, idx t]

/-- The second payload at an index: the row times the block's column. -/
theorem product_at (row : FVec Ideal S1024x1024 .bf16) (blk : FVec Ideal S1x1024x3584 .bf16) (y : S1024x3584.Idx) :
    k0_pay2 row blk y = ∑ x : Fin 1024, row (ix2 (y 0) x) * blk (ix3 (0 : Fin 1) x (y 1)) := by
  pointwise [k0_pay2]

/-- An equation with a value by cases, case by case. -/
theorem eq_by_cases {p : Prop} [Decidable p] {s : EReal} {t : p → EReal} {e : ¬p → EReal} (ht : ∀ h, s = t h)
    (he : ∀ h, s = e h) : s = dite p t e := by
  by_cases h : p
  · rw [dif_pos h]; exact ht h
  · rw [dif_neg h]; exact he h

/-- The packed column `j` holds the in-projection's column `k`. -/
def Holds (j k : Nat) : Prop :=
  (4096 ≤ j ∧ k = 3872 + (j - 4096)) ∨ (3840 ≤ j ∧ j < 3872 ∧ k = j) ∨ (512 ≤ j ∧ j < 3584 ∧ k = 768 + (j - 512))
    ∨ (3584 ≤ j ∧ j < 3840 ∧ k = 512 + (j - 3584)) ∨ (j < 512 ∧ k = j)

/-- At a packed column that holds column `k`, the packed weights are column `k`. -/
theorem packCol_of (w : FVec Ideal S2x1024x6944 .f32) (x : Fin 1024) (j : Fin 7168) (k : Fin 6944)
    (h : Holds j.val k.val) : packCol w x j = w (ix3 (0 : Fin 2) x k) := by
  have same : ∀ k' : Fin 6944, k'.val = k.val → w (ix3 (0 : Fin 2) x k') = w (ix3 (0 : Fin 2) x k) :=
    fun k' e => congrArg (fun k : Fin 6944 => w (ix3 (0 : Fin 2) x k)) (Fin.ext e)
  unfold packCol
  unfold Holds at h
  split_ifs <;> first | (exfalso; omega) | (refine same _ ?_; dsimp only; omega)

/-- At a packed column between the slots, the packed weights are zero. -/
theorem packCol_pad (w : FVec Ideal S2x1024x6944 .f32) (x : Fin 1024) (j : Fin 7168) (h : 3872 ≤ j.val) (h' : j.val < 4096) :
    packCol w x j = 0 := by
  unfold packCol
  rw [dif_neg (by omega), dif_neg (by omega), dif_neg (by omega), dif_neg (by omega), dif_neg (by omega)]

/-- The reference's arrangement of its pieces, at one column: every piece's columns are the columns the packed weights hold
    there, and the padding is zero. -/
theorem ladder (g : Fin 6944 → EReal) (j : Fin 7168) (s : EReal)
    (hc : ∀ k : Fin 6944, Holds j.val k.val → s = g k) (hz : 3872 ≤ j.val → j.val < 4096 → s = 0) :
    s =
      if h : j.val < 512 then g ⟨j.val, by omega⟩ else
      if h : j.val - 512 < 1536 then g ⟨768 + (j.val - 512), by omega⟩ else
      if h : j.val - 512 - 1536 < 256 then g ⟨2304 + (j.val - 512 - 1536), by omega⟩ else
      if h : j.val - 512 - 1536 - 256 < 256 then g ⟨2560 + (j.val - 512 - 1536 - 256), by omega⟩ else
      if h : j.val - 512 - 1536 - 256 - 256 < 512 then g ⟨2816 + (j.val - 512 - 1536 - 256 - 256), by omega⟩ else
      if h : j.val - 512 - 1536 - 256 - 256 - 512 < 512 then g ⟨3328 + (j.val - 512 - 1536 - 256 - 256 - 512), by omega⟩ else
      if h : j.val - 512 - 1536 - 256 - 256 - 512 - 512 < 128 then g ⟨512 + (j.val - 512 - 1536 - 256 - 256 - 512 - 512), by omega⟩ else
      if h : j.val - 512 - 1536 - 256 - 256 - 512 - 512 - 128 < 128 then g ⟨640 + (j.val - 512 - 1536 - 256 - 256 - 512 - 512 - 128), by omega⟩ else
      if h : j.val - 512 - 1536 - 256 - 256 - 512 - 512 - 128 - 128 < 32 then g ⟨3840 + (j.val - 512 - 1536 - 256 - 256 - 512 - 512 - 128 - 128), by omega⟩ else
      if h : j.val - 512 - 1536 - 256 - 256 - 512 - 512 - 128 - 128 - 32 < 224 then 0 else g ⟨3872 + (j.val - 512 - 1536 - 256 - 256 - 512 - 512 - 128 - 128 - 32 - 224), by omega⟩ := by
  unfold Holds at hc
  iterate 9 refine eq_by_cases (fun h => hc _ (by dsimp only; omega)) fun h => ?_
  exact eq_by_cases (fun h => hz (by omega) (by omega)) fun h => hc _ (by dsimp only; omega)

/-- The reference lays its product's columns out as the packed weights' columns lie. -/
theorem pieces (x0 : FVec Ideal S16384x1024 .f32) (x1 : FVec Ideal S1024 .f32) (x2 : FVec Ideal S2x1024x6944 .f32)
    (z : S16384x7168.Idx) (s : EReal)
    (hc : ∀ k : Fin 6944, Holds (z 1).val k.val → s = val_main_v15 (F := Ideal) x0 x1 x2 (ix2 (z 0) k))
    (hz : 3872 ≤ (z 1).val → (z 1).val < 4096 → s = 0) :
    s = val_main_v28 (F := Ideal) x0 x1 x2 z := by
  have h1 : (z 1).val < 7168 := (z 1).isLt
  pointwise [val_main_v28, val_main_v27, val_main_v26, val_main_v25, val_main_v24, val_main_v23,
    val_main_v22, val_main_v21, val_main_v20, val_main_v19, val_main_v18, val_main_v17, val_main_v16, val_main_cst_2]
  exact ladder (fun k => val_main_v15 (F := Ideal) x0 x1 x2 (ix2 (z 0) k)) (z 1) s hc hz

/-- What a point writes back at index `y` is the reference's result there. -/
theorem point (c : Dev nD) (s t : Fin cfg0.N) (hs : s.val = 2 * (t.val / 2)) (y : S1024x3584.Idx) :
    k0_pay2 (k0_pay1 (iblk m c 0 s) (iblk m c 1 s)) (iblk m c 2 t) y
    = val_main_v28 (F := Ideal) (m ((c : Thread nD τ).loc main_arg0)) (m ((c : Thread nD τ).loc main_arg1))
        (m ((c : Thread nD τ).loc main_arg2)) (((cfg0.win 3).blk t).view.emb y) := by
  rw [product_at]
  have e : ∀ x : Fin 1024, iblk m c 2 t (ix3 (0 : Fin 1) x (y 1))
      = packCol (m ((c : Thread nD τ).loc main_arg2)) x ((((cfg0.win 3).blk t).view.emb y) 1) := fun x =>
    (weights m c t x y).trans (packed_at m c x _)
  refine pieces _ _ _ _ _ (fun k hk => ?_) fun h h' => Finset.sum_eq_zero fun x _ => ?_
  · rw [← column m c s t hs y k]
    exact Finset.sum_congr rfl fun x _ => congrArg (fun a : EReal => k0_pay1 (iblk m c 0 s) (iblk m c 1 s) (ix2 (y 0) x) * a)
      ((e x).trans (packCol_of _ x _ k hk))
  · exact (congrArg (fun a : EReal => k0_pay1 (iblk m c 0 s) (iblk m c 1 s) (ix2 (y 0) x) * a)
      ((e x).trans (packCol_pad _ x _ h h'))).trans (mul_zero _)

/-- The result array after the run is the reference's result. -/
theorem final (c : Dev nD) : (dats m 0 c).arrAt 3 (cfgs 0).N
    = val_main_v28 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3, stored m c ⟨2 * (t.val / 2), Nat.lt_of_le_of_lt (Nat.mul_div_le _ _) t.isLt⟩ t rfl]
  exact point m c _ t rfl y

end Cert.Kernel3Ideal.InProjValue

end
-- ==== Proof.Merge.lean ====
/- The value of the gated merge: at the extended reals the kernel's result array is the reference's. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.MergeValue

open Cert.Kernel4Ideal Cert.Kernel4Ideal.Gen Cert.Kernel4Ideal.Value
open Cert.Reference4Ideal.Read

variable (m : (ℓ : Loc nD τ sig) → Buf (Elt Ideal) ℓ)

/-- The block index of every window at grid point `t`: the token blocks move with `t`, the gates' three column
    blocks are the fourth to the sixth of the projection, and the weights are one block. -/
theorem idx : ∀ t : Fin cfg0.N, win0_0.index t = ![t.val, 0] ∧ win0_1.index t = ![t.val, 0] ∧ win0_2.index t = ![t.val, 0]
    ∧ win0_3.index t = ![t.val, 4] ∧ win0_4.index t = ![t.val, 5] ∧ win0_5.index t = ![t.val, 6]
    ∧ win0_6.index t = ![t.val, 0] ∧ win0_7.index t = ![0, 0] ∧ win0_8.index t = ![0, 0] ∧ win0_9.index t = ![0, 0]
    ∧ win0_10.index t = ![0, 0] ∧ win0_11.index t = ![t.val, 0] :=
  (by decide +kernel : ∀ t : Fin grid0.N, _)

set_option maxHeartbeats 1600000 in
/-- What the body stores at index `y` of its block is the reference's result at the array index where `y` sits. -/
theorem point (c : Dev nD) (t : Fin cfg0.N) (y : S1024x1024.Idx) :
    k0_pay1 (k0_pay2 (iblk m c 3 t) (iblk m c 0 t) (iblk m c 7 t) (iblk m c 4 t) (iblk m c 1 t) (iblk m c 8 t))
      (k0_pay3 (iblk m c 5 t)) (k0_pay4 (F := Ideal)) (iblk m c 2 t) (iblk m c 9 t) (iblk m c 6 t) (iblk m c 10 t) y
    = val_main_v27 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (((cfg0.win 11).blk t).view.emb y) := by
  pointwise [k0_pay1, k0_pay2, k0_pay3, k0_pay4, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_cst, val_main_cst_0]
  simp only [zero_sub]
  blk_point [iblk, V, idx t]

/-- The result array after the run is the reference's result. -/
theorem final (c : Dev nD) : (dats m 0 c).arrAt 11 (cfgs 0).N
    = val_main_v27 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (dats m 0 c).arrAt_eq_of_covers 11 _ (by decide +kernel) fun t _ y => ?_
  blk_simp
  rw [after0_11]; frame_out
  exact point m c t y

end Cert.Kernel4Ideal.MergeValue

end
-- ==== Proof.XAttnPay.lean ====
module

public import proofs.«01_k».proof.Defs
public import proofs.«01_k».proof.Proof.Gen.Kernel5Ideal.Value
public import Idealize.ShloMosaic.Lib.Pipeline.ValueKit
public import Idealize.ShloMosaic.Lib.Pipeline.ReadBack
public import Idealize.ShloMosaic.Lib.Claim
public import Idealize.ShloMosaic.Lib.Pointwise

/-! # The cross-attention call, read at an element: what a point stores, and its four heads -/

@[expose] public section

set_option maxRecDepth 16384

noncomputable section

open Idealize.ShloMosaic Idealize.ShloMosaic.TcCoe Idealize.SL.Sem
open Idealize.ShloMosaic.Pipeline (Dat)

namespace Cert.Kernel5Ideal.XAttnValue

open Cert.Kernel5Ideal Cert.Kernel5Ideal.Gen Cert.Kernel5Ideal.Value

variable (m : (ℓ : Loc nD τ sig) → Buf (Elt Ideal) ℓ)

/-- The queries of a block before their heads' norms: the rows normalised, scaled by the gain, and multiplied out. -/
def qproj (a : FVec Ideal S1x1024x1024 .f32) (g : FVec Ideal S1x1024 .f32) (w : FVec Ideal S1024x1024 .bf16) (r j : Fin 1024) : EReal :=
  ∑ x : Fin 1024, a (ix3 (0 : Fin 1) r x) * Ideal.rsqrt (Ideal.div (∑ y : Fin 1024, a (ix3 (0 : Fin 1) r y) * a (ix3 (0 : Fin 1) r y))
    (Ideal.ofBits FTy.f32 1149239296#32) + Ideal.ofBits FTy.f32 897988541#32) * g (ix2 (0 : Fin 1) x) * w (ix2 x j)

/-- The block's projected queries. -/
theorem pay3_at (a : FVec Ideal S1x1024x1024 .f32) (g : FVec Ideal S1x1024 .f32) (w : FVec Ideal S1024x1024 .bf16) (r j : Fin 1024) :
    k0_pay3 (F := Ideal) a g w (ix2 r j) = qproj a g w r j := by
  pointwise [k0_pay3, k0_pay2, qproj]

/-- A row of a head's keys: normalised and scaled by the gain. -/
def khead (p : Fin 256 → EReal) (g : FVec Ideal S1x256 .f32) (z : Fin 256) : EReal :=
  p z * Ideal.rsqrt (Ideal.div (∑ y : Fin 256, p y * p y) (Ideal.ofBits FTy.f32 1132462080#32) + Ideal.ofBits FTy.f32 897988541#32)
    * g (ix2 (0 : Fin 1) z)

/-- A row of a head's queries: normalised, scaled by the gain and by 1/16. -/
def qhead (p : Fin 256 → EReal) (g : FVec Ideal S1x256 .f32) (z : Fin 256) : EReal :=
  khead p g z * Ideal.ofBits FTy.f32 1031798784#32

/-- A head's value: the weights `e^(score − greatest score)` of a query over the keys, times the values, over the weights' sum. -/
def over (q : Fin 256 → EReal) (k : Fin 256 → Fin 256 → EReal) (w : Fin 256 → EReal) : EReal :=
  Ideal.div
    (∑ x : Fin 256, FloatOps.exp (F := Ideal) (φ := .f32) ((∑ z : Fin 256, q z * k x z)
      - Finset.fold max (Ideal.ofBits FTy.f32 4286578688#32) (fun x : Fin 256 => ∑ z : Fin 256, q z * k x z) Finset.univ) * w x)
    (∑ x : Fin 256, FloatOps.exp (F := Ideal) (φ := .f32) ((∑ z : Fin 256, q z * k x z)
      - Finset.fold max (Ideal.ofBits FTy.f32 4286578688#32) (fun x : Fin 256 => ∑ z : Fin 256, q z * k x z) Finset.univ))

/-- The first head's queries. -/
theorem pay4_at (a : FVec Ideal S1x1024x1024 .f32) (g : FVec Ideal S1x1024 .f32) (w : FVec Ideal S1024x1024 .bf16) (gq : FVec Ideal S1x256 .f32)
    (r : Fin 1024) (z : Fin 256) :
    k0_pay4 (F := Ideal) a g w gq (ix2 r z) = qhead (fun z => k0_pay3 (F := Ideal) a g w (ix2 r ⟨0 + z.val, by omega⟩)) gq z := by
  simp only [Nat.zero_add]
  pointwise [k0_pay4, qhead, khead]
/-- The third head's queries. -/
theorem pay13_at (p : FVec Ideal S1024x1024 .f32) (gq : FVec Ideal S1x256 .f32) (r : Fin 1024) (z : Fin 256) :
    k0_pay13 (F := Ideal) p gq (ix2 r z) = qhead (fun z => p (ix2 r ⟨512 + z.val, by omega⟩)) gq z := by
  pointwise [k0_pay13, qhead, khead]
/-- The fourth head's queries. -/
theorem pay16_at (p : FVec Ideal S1024x1024 .f32) (gq : FVec Ideal S1x256 .f32) (r : Fin 1024) (z : Fin 256) :
    k0_pay16 (F := Ideal) p gq (ix2 r z) = qhead (fun z => p (ix2 r ⟨768 + z.val, by omega⟩)) gq z := by
  pointwise [k0_pay16, qhead, khead]

/-- The first head over its queries. -/
theorem pay5_at (q : FVec Ideal S1024x256 .bf16) (k : FVec Ideal S1x256x256 .bf16) (gk : FVec Ideal S1x256 .f32) (v : FVec Ideal S1x256x256 .bf16)
    (r : Fin 1024) (d : Fin 256) :
    k0_pay5 (F := Ideal) q k gk v (ix2 r d)
      = over (fun z => q (ix2 r z)) (fun x => khead (fun z => k (ix3 (0 : Fin 1) x z)) gk) (fun x => v (ix3 (0 : Fin 1) x d)) := by
  pointwise [k0_pay5, over, khead]
/-- The second head over the projected queries. -/
theorem pay12_at (p : FVec Ideal S1024x1024 .f32) (gq : FVec Ideal S1x256 .f32) (k : FVec Ideal S1x256x256 .bf16) (gk : FVec Ideal S1x256 .f32)
    (v : FVec Ideal S1x256x256 .bf16) (r : Fin 1024) (d : Fin 256) :
    k0_pay12 (F := Ideal) (k0_pay10 (k0_pay6 p) (k0_pay7 gq) (k0_pay8 p) k gk) (k0_pay11 (k0_pay6 p) (k0_pay7 gq) (k0_pay8 p) k gk v) (ix2 r d)
      = over (qhead (fun z => p (ix2 r ⟨256 + z.val, by omega⟩)) gq) (fun x => khead (fun z => k (ix3 (0 : Fin 1) x z)) gk)
          (fun x => v (ix3 (0 : Fin 1) x d)) := by
  pointwise [k0_pay12, k0_pay11, k0_pay10, k0_pay9, k0_pay8, k0_pay7, k0_pay6, over, qhead, khead]
/-- The third head over its queries. -/
theorem pay15_at (q : FVec Ideal S1024x256 .bf16) (k : FVec Ideal S1x256x256 .bf16) (gk : FVec Ideal S1x256 .f32) (v : FVec Ideal S1x256x256 .bf16)
    (r : Fin 1024) (d : Fin 256) :
    k0_pay15 (F := Ideal) q (k0_pay14 k gk) (constant S1024x256 FTy.f32 0#32) v (ix2 r d)
      = over (fun z => q (ix2 r z)) (fun x => khead (fun z => k (ix3 (0 : Fin 1) x z)) gk) (fun x => v (ix3 (0 : Fin 1) x d)) := by
  pointwise [k0_pay15, k0_pay14, over, khead]
/-- The fourth head over its queries. -/
theorem pay18_at (q : FVec Ideal S1024x256 .bf16) (k : FVec Ideal S1x256x256 .bf16) (gk : FVec Ideal S1x256 .f32) (v : FVec Ideal S1x256x256 .bf16)
    (r : Fin 1024) (d : Fin 256) :
    k0_pay18 (F := Ideal) q (k0_pay17 k) gk v (ix2 r d)
      = over (fun z => q (ix2 r z)) (fun x => khead (fun z => k (ix3 (0 : Fin 1) x z)) gk) (fun x => v (ix3 (0 : Fin 1) x d)) := by
  pointwise [k0_pay18, k0_pay17, over, khead]

/-- The four heads side by side: the value at a column is that of the head its column lies in. -/
def heads (p : FVec Ideal S1024x1024 .f32) (gq : FVec Ideal S1x256 .f32) (K : FVec Ideal S1x256x1024 .bf16) (gk : FVec Ideal S1x256 .f32)
    (X : FVec Ideal S1x256x1024 .bf16) : FVec Ideal S1024x1024 .bf16 := fun y =>
  over (qhead (fun z => p (ix2 (y 0 : Fin 1024) ⟨(y 1).val / 256 * 256 + z.val, by have : (y 1).val < 1024 := (y 1).isLt; omega⟩)) gq)
    (fun x => khead (fun z => K (ix3 (0 : Fin 1) x ⟨(y 1).val / 256 * 256 + z.val, by have : (y 1).val < 1024 := (y 1).isLt; omega⟩)) gk)
    (fun x => X (ix3 (0 : Fin 1) x (y 1 : Fin 1024)))

/-- A head over loaded columns from `o` on is the heads' value there. -/
theorem heads_of (p : FVec Ideal S1024x1024 .f32) (gq : FVec Ideal S1x256 .f32) (K : FVec Ideal S1x256x1024 .bf16) (gk : FVec Ideal S1x256 .f32)
    (X : FVec Ideal S1x256x1024 .bf16) (k v : FVec Ideal S1x256x256 .bf16) (r : Fin 1024) (d : Fin 256) (o : ℕ) (ho : o + 256 ≤ 1024) (h : o % 256 = 0)
    (hk : ∀ x z : Fin 256, k (ix3 (0 : Fin 1) x z) = K (ix3 (0 : Fin 1) x ⟨o + z.val, by omega⟩))
    (hv : ∀ x z : Fin 256, v (ix3 (0 : Fin 1) x z) = X (ix3 (0 : Fin 1) x ⟨o + z.val, by omega⟩)) (y : S1024x1024.Idx) (h0 : (y 0).val = r.val)
    (h1 : (y 1).val = o + d.val) :
    over (qhead (fun z => p (ix2 r ⟨o + z.val, by omega⟩)) gq) (fun x => khead (fun z => k (ix3 (0 : Fin 1) x z)) gk) (fun x => v (ix3 (0 : Fin 1) x d))
      = heads p gq K gk X y := by
  have hd : d.val < 256 := d.isLt
  obtain rfl : (y 0 : Fin 1024) = r := Fin.ext h0
  have e1 : (y 1 : Fin 1024) = ⟨o + d.val, by omega⟩ := Fin.ext h1
  have ed : (o + d.val) / 256 * 256 = o := by omega
  unfold heads
  simp only [hk, hv, e1, ed]
  rfl

/-- A head's columns of the memory's keys or values, from `o` on, as a load takes them. -/
abbrev cols (o : ℕ) (h : ∀ a, (![0, 0, o] : Fin 3 → ℕ) a + S1x256x256.size a ≤ S1x256x1024.size a) (K : FVec Ideal S1x256x1024 .bf16) :
    FVec Ideal S1x256x256 .bf16 := fun y => K ((Rect.unit (s := S1x256x1024) ![0, 0, o] S1x256x256.size h).idx y)

/-- A loaded column is the block's column. -/
theorem cols_at (o : ℕ) (h : ∀ a, (![0, 0, o] : Fin 3 → ℕ) a + S1x256x256.size a ≤ S1x256x1024.size a) (ho : o + 256 ≤ 1024)
    (K : FVec Ideal S1x256x1024 .bf16) (x z : Fin 256) :
    cols o h K (ix3 (0 : Fin 1) x z) = K (ix3 (0 : Fin 1) x ⟨o + z.val, by omega⟩) :=
  congrArg K (funext fun a => Fin.ext (by match a with
    | ⟨0, _⟩ => rfl
    | ⟨1, _⟩ => exact (Nat.zero_add _).trans (Nat.one_mul _)
    | ⟨2, _⟩ => exact congrArg (o + ·) (Nat.one_mul _)))

/-- What is stored in a tile of the heads' scratch, read where the tile lies. -/
theorem tile (f : FVec Ideal S1024x256 .bf16) (p : FVec Ideal S1024x1024 .f32) (gq : FVec Ideal S1x256 .f32) (K : FVec Ideal S1x256x1024 .bf16)
    (gk : FVec Ideal S1x256 .f32) (X : FVec Ideal S1x256x1024 .bf16) (o : ℕ)
    (hc : ∀ a, (![0, 0, o] : Fin 3 → ℕ) a + S1x256x256.size a ≤ S1x256x1024.size a) (ho : o + 256 ≤ 1024) (h : o % 256 = 0)
    (hf : ∀ (r : Fin 1024) (d : Fin 256), f (ix2 r d) = over (qhead (fun z => p (ix2 r ⟨o + z.val, by omega⟩)) gq)
      (fun x => khead (fun z => cols o hc K (ix3 (0 : Fin 1) x z)) gk) (fun x => cols o hc X (ix3 (0 : Fin 1) x d)))
    (x : S1024x256.Idx) (y : S1024x1024.Idx) (h0 : (y 0).val = (x 0).val) (h1 : (y 1).val = o + (x 1).val) :
    f x = heads p gq K gk X y := by
  have hx : x = ix2 (x 0 : Fin 1024) (x 1 : Fin 256) := by funext a; fin_cases a <;> rfl
  refine (congrArg f hx).trans ((hf _ _).trans ?_)
  exact heads_of p gq K gk X _ _ _ _ o ho h (cols_at o hc ho K) (cols_at o hc ho X) y h0 h1

/-- What a point stores: the block, and over the heads' values the output projection. -/
theorem stored (c : Dev nD) (t : Fin cfg0.N) : outsAt0 m c t = k0_pay1 (F := Ideal) (k0_pay19 (k0_pay2 (iblk m c 0 t))
    (heads (k0_pay3 (iblk m c 0 t) (iblk m c 1 t) (iblk m c 2 t)) (iblk m c 5 t) (iblk m c 3 t) (iblk m c 6 t) (iblk m c 4 t)) (iblk m c 7 t)) := by
  unfold outsAt0
  frame_open
  simp (disch := decide) only [↓ View.readCov_skip, ↓ View.readCov_cons_toLoadRect, ↓ View.readCov_fill]
  frame_out
  refine congrArg (fun z => k0_pay1 (F := Ideal) (k0_pay19 (k0_pay2 (iblk m c 0 t)) z (iblk m c 7 t))) ?_
  rw [View.readCov_eq_canon']
  funext j
  have hj : ∀ (p : FVec Ideal S1024x1024 .bf16), p ((Rect.unit (s := S1024x1024) ![0, 0] S1024x1024.size inb_S1024x1024_S1024x1024_0_0).toLoadRect.idx j) = p j :=
    fun p => congrArg p (funext fun a => Fin.ext (by match a with
      | ⟨0, _⟩ => exact (Nat.zero_add _).trans (Nat.one_mul _)
      | ⟨1, _⟩ => exact (Nat.zero_add _).trans (Nat.one_mul _)))
  refine (View.canon_apply_of_pieces (heads (k0_pay3 (iblk m c 0 t) (iblk m c 1 t) (iblk m c 2 t)) (iblk m c 5 t) (iblk m c 3 t) (iblk m c 6 t) (iblk m c 4 t)) _ ?_ _ ?_).trans (hj _)
  · intro p hp x
    rcases List.mem_cons.1 hp with rfl | hp
    · refine tile _ _ _ _ _ _ 768 inb_S1x256x1024_S1x256x256_0_0_768 (by decide) (by decide) (fun r d => (pay18_at _ _ _ _ r d).trans ?_) x _ ?_ ?_
      · simp only [pay16_at]
      · exact (Nat.zero_add _).trans (Nat.one_mul _)
      · exact congrArg (768 + ·) (Nat.one_mul _)
    rcases List.mem_cons.1 hp with rfl | hp
    · refine tile _ _ _ _ _ _ 512 inb_S1x256x1024_S1x256x256_0_0_512 (by decide) (by decide) (fun r d => (pay15_at _ _ _ _ r d).trans ?_) x _ ?_ ?_
      · simp only [pay13_at]
      · exact (Nat.zero_add _).trans (Nat.one_mul _)
      · exact congrArg (512 + ·) (Nat.one_mul _)
    rcases List.mem_cons.1 hp with rfl | hp
    · refine tile _ _ _ _ _ _ 256 inb_S1x256x1024_S1x256x256_0_0_256 (by decide) (by decide) (fun r d => pay12_at _ _ _ _ _ r d) x _ ?_ ?_
      · exact (Nat.zero_add _).trans (Nat.one_mul _)
      · exact congrArg (256 + ·) (Nat.one_mul _)
    rcases List.mem_singleton.1 hp with rfl
    refine tile _ _ _ _ _ _ 0 inb_S1x256x1024_S1x256x256_0_0_0 (by decide) (by decide) (fun r d => (pay5_at _ _ _ _ r d).trans ?_) x _ ?_ ?_
    · simp only [pay4_at]
    · exact (Nat.zero_add _).trans (Nat.one_mul _)
    · exact congrArg (0 + ·) (Nat.one_mul _)
  · have hr : (j 0).val < 1024 := (j 0).isLt
    have hc : (j 1).val < 1024 := (j 1).isLt
    have e0 : ((Rect.unit (s := S1024x1024) ![0, 0] S1024x1024.size inb_S1024x1024_S1024x1024_0_0).toLoadRect.idx j 0).val = (j 0).val :=
      (Nat.zero_add _).trans (Nat.one_mul _)
    have e1 : ((Rect.unit (s := S1024x1024) ![0, 0] S1024x1024.size inb_S1024x1024_S1024x1024_0_0).toLoadRect.idx j 1).val = (j 1).val :=
      (Nat.zero_add _).trans (Nat.one_mul _)
    have key : ∀ o : ℕ, ∀ hi : ∀ a, (![0, o] : Fin 2 → ℕ) a + (![1024, 256] : Fin 2 → ℕ) a ≤ S1024x1024.size a, o ≤ (j 1).val → (j 1).val < o + 256 →
        (Rect.unit (s := S1024x1024) ![0, 0] S1024x1024.size inb_S1024x1024_S1024x1024_0_0).toLoadRect.idx j
          ∈ (Rect.unit (s := S1024x1024) ![0, o] ![1024, 256] hi).set := fun o hi hl hu => by
      refine Rect.mem_set_unit.mpr fun a => ?_
      match a with
      | ⟨0, _⟩ => exact ⟨Nat.zero_le _, e0.le.trans_lt (by simpa using hr)⟩
      | ⟨1, _⟩ => exact ⟨hl.trans e1.ge, e1.le.trans_lt hu⟩
    by_cases h3 : 768 ≤ (j 1).val
    · exact ⟨_, List.mem_cons_self, key 768 inb_S1024x1024_S1024x256_0_768 h3 (by omega)⟩
    by_cases h2 : 512 ≤ (j 1).val
    · exact ⟨_, List.mem_cons_of_mem _ List.mem_cons_self, key 512 inb_S1024x1024_S1024x256_0_512 h2 (by omega)⟩
    by_cases h1 : 256 ≤ (j 1).val
    · exact ⟨_, List.mem_cons_of_mem _ (List.mem_cons_of_mem _ List.mem_cons_self), key 256 inb_S1024x1024_S1024x256_0_256 h1 (by omega)⟩
    exact ⟨_, List.mem_cons_of_mem _ (List.mem_cons_of_mem _ (List.mem_cons_of_mem _ List.mem_cons_self)), key 0 inb_S1024x1024_S1024x256_0_0 (Nat.zero_le _) (by omega)⟩

/-- The block stored, at a row and a column. -/
theorem pay19_at (a : FVec Ideal S1x1024x1024 .f32) (p w : FVec Ideal S1024x1024 .bf16) (r j : Fin 1024) :
    k0_pay1 (F := Ideal) (k0_pay19 (k0_pay2 a) p w) (ix3 (0 : Fin 1) r j)
      = a (ix3 (0 : Fin 1) r j) + ∑ x : Fin 1024, p (ix2 r x) * w (ix2 x j) := by
  pointwise [k0_pay1, k0_pay19, k0_pay2]

end Cert.Kernel5Ideal.XAttnValue

end
-- ==== Proof.XAttnRef.lean ====
module

public import proofs.«01_k».proof.Defs
public import proofs.«01_k».proof.Proof.Softmax
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack
public import Idealize.ShloMosaic.Lib.Claim
public import Idealize.ShloMosaic.Lib.Pointwise

/-! # The cross-attention's reference, read at an element: projection, norms, scores, weights and the result -/

@[expose] public section

set_option maxRecDepth 16384

noncomputable section

open Idealize.ShloMosaic Idealize.ShloMosaic.TcCoe Idealize.SL.Sem
open Idealize.ShloMosaic.Pipeline (Dat)

namespace Cert.Reference5Ideal.XAttnRef

open Cert.Reference5Ideal Cert.Reference5Ideal.Gen
open Cert.Reference5Ideal.Read

/-- The printed maximum over the last axis, as a fold. -/
theorem max_last (v : FVec Ideal S8x4x2048x256 .f32) (c : FVec Ideal S_ .f32) (h : S8x4x2048x256.Reduces [3] S8x4x2048) (i : S8x4x2048.Idx) :
    Host.reduce FloatOps.maximumf v c reducesTo_S8x4x2048x256_S8x4x2048_d3 h_S_ i
      = (Finset.univ : Finset (Fin (S8x4x2048x256.size 3))).fold FloatOps.maximumf (c (Shape.Idx.first h_S_)) (v ∘ h.lift i) :=
  Host.reduce_eq_fold_single _ v c _ h _ i

/-- The index with the last coordinate put in. -/
theorem lift_last (h : S8x4x2048x256.Reduces [3] S8x4x2048) (b : Fin 8) (k : Fin 4) (l : Fin 2048) (t : Fin 256) :
    h.lift (ix3 b k l) t = ix4 b k l t :=
  funext fun a => Fin.ext (by match a with | ⟨0, _⟩ => rfl | ⟨1, _⟩ => rfl | ⟨2, _⟩ => rfl | ⟨3, _⟩ => rfl)

/-- The maximum at a row, over its elements. -/
theorem max_at (v : FVec Ideal S8x4x2048x256 .f32) (c : FVec Ideal S_ .f32) (b : Fin 8) (k : Fin 4) (l : Fin 2048) :
    Host.reduce FloatOps.maximumf v c reducesTo_S8x4x2048x256_S8x4x2048_d3 h_S_ (ix3 b k l)
      = (Finset.univ : Finset (Fin 256)).fold FloatOps.maximumf (c (Shape.Idx.first h_S_)) (fun t => v (ix4 b k l t)) :=
  (max_last v c (by decide) _).trans
    (congrArg (fun f => Finset.fold FloatOps.maximumf _ f (Finset.univ : Finset (Fin 256)))
      (funext fun t => congrArg v (lift_last _ b k l t)))

/-- A head's row under its norm: each entry over the row's root mean square, times the gain's entry. -/
def norm (p g : Fin 256 → EReal) (z : Fin 256) : EReal :=
  p z * Ideal.rsqrt (Ideal.div (∑ y : Fin 256, p y * p y) (Ideal.ofBits FTy.f32 1132462080#32) + Ideal.ofBits FTy.f32 897988541#32) * g z

variable (x0 : FVec Ideal S8x2048x1024 .f32) (x1 : FVec Ideal S1024 .f32) (x2 : FVec Ideal S1024x1024 .f32) (x3 : FVec Ideal S8x256x2048 .bf16)
  (x4 x5 : FVec Ideal S256 .f32) (x6 : FVec Ideal S1024x1024 .f32)

/-- An entry of the layer's rows under their norm. -/
theorem rms_at (b : Fin 8) (l : Fin 2048) (x : Fin 1024) : val_main_v12 (F := Ideal) x0 x1 (ix3 b l x) =
    x0 (ix3 b l x) * Ideal.rsqrt (Ideal.div (∑ y : Fin 1024, x0 (ix3 b l y) * x0 (ix3 b l y))
      (Ideal.ofBits FTy.f32 1149239296#32) + Ideal.ofBits FTy.f32 897988541#32) * x1 (ix1 x) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- A projected query entry. -/
theorem proj_at (b : Fin 8) (l : Fin 2048) (j : Fin 1024) : val_main_v14 (F := Ideal) x0 x1 x2 (ix3 b l j) =
    ∑ x : Fin 1024, x0 (ix3 b l x) * Ideal.rsqrt (Ideal.div (∑ y : Fin 1024, x0 (ix3 b l y) * x0 (ix3 b l y))
      (Ideal.ofBits FTy.f32 1149239296#32) + Ideal.ofBits FTy.f32 897988541#32) * x1 (ix1 x) * x2 (ix2 x j) := by
  rw [val_main_v14_apply]
  refine Finset.sum_congr rfl fun x _ => ?_
  refine congrArg₂ (· * ·) ((congrArg _ ?_).trans (rms_at x0 x1 b l x)) (congrArg _ ?_) <;> (funext a; fin_cases a <;> rfl)

/-- A query entry under the norm of its head. -/
theorem normQ_at (b : Fin 8) (l : Fin 2048) (k : Fin 4) (d : Fin 256) : val_main_v28 (F := Ideal) x0 x1 x2 x4 (ix4 b l k d) =
    norm (fun z => val_main_v14 (F := Ideal) x0 x1 x2 (ix3 b l ⟨k * 256 + z, by omega⟩)) (fun z => x4 (ix1 z)) d := by
  pointwise [val_main_v28, val_main_v27, val_main_v26, val_main_v25, val_main_v24, val_main_v23, val_main_v22, val_main_v21,
    val_main_v20, val_main_v19, val_main_v18, val_main_v17, val_main_v16, val_main_v15, val_main_cst_2, val_main_cst_3, val_main_cst_4, norm]

/-- A key entry under the norm of its head. -/
theorem normK_at (b : Fin 8) (t : Fin 256) (k : Fin 4) (d : Fin 256) : val_main_v43 (F := Ideal) x3 x5 (ix4 b t k d) =
    norm (fun z => x3 (ix3 b t ⟨k * 256 + z, by omega⟩)) (fun z => x5 (ix1 z)) d := by
  pointwise [val_main_v43, val_main_v42, val_main_v41, val_main_v40, val_main_v39, val_main_v38, val_main_v37, val_main_v36,
    val_main_v35, val_main_v34, val_main_v33, val_main_v32, val_main_v31, val_main_v30, val_main_v29, val_main_v13, val_main_cst_5, val_main_cst_6, val_main_cst_7, norm]

/-- A value. -/
theorem value_at (b : Fin 8) (t : Fin 256) (k : Fin 4) (d : Fin 256) : val_main_v45 (F := Ideal) x3 (ix4 b t k d) =
    x3 (ix3 b t ⟨1024 + (k * 256 + d), by omega⟩) := by
  pointwise [val_main_v45, val_main_v44, val_main_v13]

/-- A score: the product of a query row and a key row, times 1/16. -/
theorem score_at (b : Fin 8) (k : Fin 4) (l : Fin 2048) (t : Fin 256) : val_main_v48 (F := Ideal) x0 x1 x2 x3 x4 x5 (ix4 b k l t) =
    (∑ x : Fin 256, val_main_v28 (F := Ideal) x0 x1 x2 x4 (ix4 b l k x) * val_main_v43 (F := Ideal) x3 x5 (ix4 b t k x))
      * Ideal.ofBits FTy.f32 0x3D800000#32 := by
  rw [val_main_v48_apply, val_main_v46_apply]
  refine congrArg (· * Ideal.ofBits FTy.f32 0x3D800000#32) (Finset.sum_congr rfl fun x _ => ?_)
  exact congrArg₂ (· * ·) (congrArg _ (by funext a; fin_cases a <;> rfl)) (congrArg _ (by funext a; fin_cases a <;> rfl))

/-- The word of −∞. -/
theorem neg_inf : Ideal.ofBits FTy.f32 4286578688#32 = (⊥ : EReal) := by
  simp [Ideal.ofBits, Ideal.ieee]

/-- The greatest score of a row. -/
theorem top_at (b : Fin 8) (k : Fin 4) (l : Fin 2048) : val_main_v49 (F := Ideal) x0 x1 x2 x3 x4 x5 (ix3 b k l) =
    Finset.univ.fold max ⊥ fun t => val_main_v48 (F := Ideal) x0 x1 x2 x3 x4 x5 (ix4 b k l t) := by
  unfold val_main_v49
  generalize val_main_v48 (F := Ideal) x0 x1 x2 x3 x4 x5 = y0
  refine (max_at y0 _ b k l).trans ?_
  have h : (val_main_cst_9 (F := Ideal)) (Shape.Idx.first h_S_) = (⊥ : EReal) := by
    rw [val_main_cst_9_apply]; exact neg_inf
  rw [h]
  rfl

/-- A numerator of the softmax. -/
theorem num_at (b : Fin 8) (k : Fin 4) (l : Fin 2048) (t : Fin 256) : val_main_v55 (F := Ideal) x0 x1 x2 x3 x4 x5 (ix4 b k l t) =
    Ideal.exp (val_main_v48 (F := Ideal) x0 x1 x2 x3 x4 x5 (ix4 b k l t) - max ⊥
      (val_main_v49 (F := Ideal) x0 x1 x2 x3 x4 x5 (ix3 b k l))) := by
  have hi : idx_main_v52 (idx_main_v53 (ix4 b k l t)) = ix3 b k l := by funext a; fin_cases a <;> rfl
  rw [val_main_v55_apply, val_main_v54_apply, val_main_v53_apply, val_main_v52_apply, hi, val_main_v51_apply,
    val_main_v50_apply, val_main_cst_10_apply]
  simp only [Ideal.hostUnary_exp_def, Ideal.subf_def, Ideal.maximumf_def, Ideal.ofBits_def, neg_inf]

/-- The sum of a row's numerators. -/
theorem den_at (b : Fin 8) (k : Fin 4) (l : Fin 2048) : val_main_v56 (F := Ideal) x0 x1 x2 x3 x4 x5 (ix3 b k l) =
    ∑ t, val_main_v55 (F := Ideal) x0 x1 x2 x3 x4 x5 (ix4 b k l t) := by
  rw [val_main_v56_apply, val_main_cst_11_apply]
  refine (congrArg (· + _) Ideal.ofBits_zero_f32).trans ((zero_add _).trans (Finset.sum_congr rfl fun t _ => ?_))
  exact congrArg _ (by funext a; fin_cases a <;> rfl)

/-- A weight of the softmax. -/
theorem weight_at (b : Fin 8) (k : Fin 4) (l : Fin 2048) (t : Fin 256) : val_main_v59 (F := Ideal) x0 x1 x2 x3 x4 x5 (ix4 b k l t) =
    Ideal.div (val_main_v55 (F := Ideal) x0 x1 x2 x3 x4 x5 (ix4 b k l t)) (val_main_v56 (F := Ideal) x0 x1 x2 x3 x4 x5 (ix3 b k l)) := by
  have hi : idx_main_v57 (idx_main_v58 (ix4 b k l t)) = ix3 b k l := by funext a; fin_cases a <;> rfl
  rw [val_main_v59_apply, val_main_v58_apply, val_main_v57_apply, hi]
  simp only [Ideal.hostDivf_def]

/-- A head's result. -/
theorem mix_at (b : Fin 8) (k : Fin 4) (d : Fin 256) (l : Fin 2048) : val_main_v60 (F := Ideal) x0 x1 x2 x3 x4 x5 (ix4 b k d l) =
    ∑ x : Fin 256, val_main_v45 (F := Ideal) x3 (ix4 b x k d) * val_main_v59 (F := Ideal) x0 x1 x2 x3 x4 x5 (ix4 b k l x) := by
  rw [val_main_v60_apply]
  refine Finset.sum_congr rfl fun x _ => ?_
  exact congrArg₂ (· * ·) (congrArg _ (by funext a; fin_cases a <;> rfl)) (congrArg _ (by funext a; fin_cases a <;> rfl))

/-- The heads side by side. -/
theorem side_at (b : Fin 8) (l : Fin 2048) (j : Fin 1024) : val_main_v62 (F := Ideal) x0 x1 x2 x3 x4 x5 (ix3 b l j) =
    val_main_v60 (F := Ideal) x0 x1 x2 x3 x4 x5 (ix4 b ⟨j / 256, by omega⟩ ⟨j % 256, Nat.mod_lt _ (by decide)⟩ l) := by
  pointwise [val_main_v62, val_main_v61]

/-- The result: the rows, plus the heads through the output projection. -/
theorem out_at (b : Fin 8) (l : Fin 2048) (j : Fin 1024) : val_main_v64 (F := Ideal) x0 x1 x2 x3 x4 x5 x6 (ix3 b l j) =
    x0 (ix3 b l j) + ∑ x : Fin 1024, val_main_v62 (F := Ideal) x0 x1 x2 x3 x4 x5 (ix3 b l x) * x6 (ix2 x j) := by
  rw [val_main_v64_apply, val_main_v63_apply]
  refine congrArg (x0 (ix3 b l j) + ·) (Finset.sum_congr rfl fun x _ => ?_)
  exact congrArg₂ (· * ·) (congrArg _ (by funext a; fin_cases a <;> rfl)) (congrArg _ (by funext a; fin_cases a <;> rfl))

end Cert.Reference5Ideal.XAttnRef

end
-- ==== Proof.XAttn.lean ====
module

public import proofs.«01_k».proof.Defs
public import proofs.«01_k».proof.Proof.Softmax
public import proofs.«01_k».proof.Proof.AttnReal
public import proofs.«01_k».proof.Proof.Gen.Kernel5Ideal.Value
public import proofs.«01_k».proof.Proof.XAttnPay
public import proofs.«01_k».proof.Proof.XAttnRef
public import Idealize.ShloMosaic.Lib.Pipeline.ValueKit
public import Idealize.ShloMosaic.Lib.Pipeline.ReadBack
public import Idealize.ShloMosaic.Lib.Claim
public import Idealize.ShloMosaic.Lib.Pointwise

/-! # The cross-attention call's result is its reference's, over the extended reals -/

@[expose] public section

set_option maxRecDepth 16384

noncomputable section

open Idealize.ShloMosaic Idealize.ShloMosaic.TcCoe Idealize.SL.Sem
open Idealize.ShloMosaic.Pipeline (Dat)

namespace Cert.Kernel5Ideal.XAttnValue

open Cert.Kernel5Ideal Cert.Kernel5Ideal.Gen Cert.Kernel5Ideal.Value
open Cert.Reference5Ideal.Read Cert.Reference5Ideal.XAttnRef
open Cert.ReferenceIdeal.AttnRef (IsReal word_eps IsReal.mul)

variable (m : (ℓ : Loc nD τ sig) → Buf (Elt Ideal) ℓ)

/-- The word of 256. -/
theorem word_256 : Ideal.ofBits FTy.f32 1132462080#32 = ((256 : ℝ) : EReal) := by
  simp [Ideal.ofBits, Ideal.ieee, -EReal.coe_mul]; norm_num

/-- The word of 1/16. -/
theorem word_sixteenth : Ideal.ofBits FTy.f32 1031798784#32 = ((1 / 16 : ℝ) : EReal) := by
  simp [Ideal.ofBits, Ideal.ieee, -EReal.coe_mul]; norm_num

/-- A sum of reals is a real. -/
theorem sum_real (f : Fin 256 → EReal) (h : ∀ i, IsReal (f i)) : IsReal (∑ i, f i) := by
  choose a ha using h
  exact ⟨∑ i, a i, by rw [Cert.Softmax.coe_sum]; exact Finset.sum_congr rfl fun i _ => ha i⟩

/-- An entry under its head's norm is a real number, whatever the row, when the gain is real. -/
theorem norm_real (p g : Fin 256 → EReal) (hg : ∀ z, IsReal (g z)) (z : Fin 256) : IsReal (norm p g z) := by
  obtain ⟨e, he, hw⟩ := word_eps
  unfold Cert.Reference5Ideal.XAttnRef.norm
  rw [hw, word_256]
  exact IsReal.mul (Cert.Softmax.normed_real p 256 e (by norm_num) he z) (hg z)

/-- A head's value is the softmax of its scores times the values: the factor 1/16 stands in the queries on one side and
    after the product on the other, and the weights' sum divides after the product on one side and before it on the other. -/
theorem head (p gq gk : Fin 256 → EReal) (kr : Fin 256 → Fin 256 → EReal) (w : Fin 256 → EReal) (hq : ∀ z, IsReal (gq z)) (hk : ∀ z, IsReal (gk z))
    (s : Fin 256 → EReal) (hs : ∀ x, s x = (∑ z : Fin 256, norm p gq z * norm (kr x) gk z) * Ideal.ofBits FTy.f32 0x3D800000#32) :
    over (fun z => norm p gq z * Ideal.ofBits FTy.f32 1031798784#32) (fun x => norm (kr x) gk) w
      = ∑ x : Fin 256, w x * Ideal.div (Ideal.exp (s x - max ⊥ (Finset.univ.fold max ⊥ s)))
          (∑ j : Fin 256, Ideal.exp (s j - max ⊥ (Finset.univ.fold max ⊥ s))) := by
  have e : ∀ x, (∑ z : Fin 256, norm p gq z * Ideal.ofBits FTy.f32 1031798784#32 * norm (kr x) gk z) = s x := fun x => by
    rw [hs x, word_sixteenth, Cert.Softmax.sum_mul_coe _ _ _ (by norm_num)]
    exact Finset.sum_congr rfl fun z _ => mul_right_comm _ _ _
  have hr : ∀ x, ∃ a : ℝ, s x = a := fun x => by
    rw [hs x, word_sixteenth]
    exact IsReal.mul (sum_real _ fun z => IsReal.mul (norm_real p gq hq z) (norm_real (kr x) gk hk z)) ⟨_, rfl⟩
  unfold over
  simp only [e, neg_inf]
  refine (Cert.Softmax.row_exp s hr w).trans (Finset.sum_congr rfl fun x _ => mul_comm _ _)

/-- Where each window's block lies at a point: the batch is `t / 2`, the block of rows `t % 2`. -/
theorem idx : ∀ t : Fin cfg0.N, win0_0.index t = ![t.val / 2, t.val % 2, 0] ∧ win0_1.index t = ![0, 0] ∧ win0_2.index t = ![0, 0]
    ∧ win0_3.index t = ![t.val / 2, 0, 0] ∧ win0_4.index t = ![t.val / 2, 0, 1] ∧ win0_5.index t = ![0, 0] ∧ win0_6.index t = ![0, 0]
    ∧ win0_7.index t = ![0, 0] ∧ win0_8.index t = ![t.val / 2, t.val % 2, 0] :=
  (by decide +kernel : ∀ t : Fin grid0.N, _)

/-- The blocks a point reads, at its batch `b` and its row `l`. -/
theorem blk0 (c : Dev nD) (t : Fin cfg0.N) (b : Fin 8) (l : Fin 2048) (r : Fin 1024) (hb : b.val = t.val / 2) (hl : l.val = t.val % 2 * 1024 + r.val)
    (x : Fin 1024) : iblk m c 0 t (ix3 (0 : Fin 1) r x) = (m ((c : Thread nD τ).loc main_arg0) : FVec Ideal S8x2048x1024 .f32) (ix3 b l x) := by
  blk_point [iblk, V, idx t]
@[inherit_doc blk0]
theorem blk1 (c : Dev nD) (t : Fin cfg0.N) (x : Fin 1024) :
    iblk m c 1 t (ix2 (0 : Fin 1) x) = (m ((c : Thread nD τ).loc main_arg1) : FVec Ideal S1024 .f32) (ix1 x) := by
  blk_point [iblk, V, idx t]
@[inherit_doc blk0]
theorem blk2 (c : Dev nD) (t : Fin cfg0.N) (x j : Fin 1024) :
    iblk m c 2 t (ix2 x j) = (m ((c : Thread nD τ).loc main_arg2) : FVec Ideal S1024x1024 .f32) (ix2 x j) := by
  blk_point [iblk, V, idx t]
@[inherit_doc blk0]
theorem blk3 (c : Dev nD) (t : Fin cfg0.N) (b : Fin 8) (hb : b.val = t.val / 2) (x : Fin 256) (j : Fin 1024) :
    iblk m c 3 t (ix3 (0 : Fin 1) x j) = (m ((c : Thread nD τ).loc main_arg3) : FVec Ideal S8x256x2048 .bf16) (ix3 b x ⟨j.val, by omega⟩) := by
  blk_point [iblk, V, idx t]
@[inherit_doc blk0]
theorem blk4 (c : Dev nD) (t : Fin cfg0.N) (b : Fin 8) (hb : b.val = t.val / 2) (x : Fin 256) (j : Fin 1024) :
    iblk m c 4 t (ix3 (0 : Fin 1) x j) = (m ((c : Thread nD τ).loc main_arg3) : FVec Ideal S8x256x2048 .bf16) (ix3 b x ⟨1024 + j.val, by omega⟩) := by
  blk_point [iblk, V, idx t]
@[inherit_doc blk0]
theorem blk5 (c : Dev nD) (t : Fin cfg0.N) (x : Fin 256) :
    iblk m c 5 t (ix2 (0 : Fin 1) x) = (m ((c : Thread nD τ).loc main_arg4) : FVec Ideal S256 .f32) (ix1 x) := by
  blk_point [iblk, V, idx t]
@[inherit_doc blk0]
theorem blk6 (c : Dev nD) (t : Fin cfg0.N) (x : Fin 256) :
    iblk m c 6 t (ix2 (0 : Fin 1) x) = (m ((c : Thread nD τ).loc main_arg5) : FVec Ideal S256 .f32) (ix1 x) := by
  blk_point [iblk, V, idx t]
@[inherit_doc blk0]
theorem blk7 (c : Dev nD) (t : Fin cfg0.N) (x j : Fin 1024) :
    iblk m c 7 t (ix2 x j) = (m ((c : Thread nD τ).loc main_arg6) : FVec Ideal S1024x1024 .f32) (ix2 x j) := by
  blk_point [iblk, V, idx t]

/-- The heads' value at a row and a column is the reference's, for projected queries, gains, keys and values that are the reference's. -/
theorem cell (p : FVec Ideal S1024x1024 .f32) (gq : FVec Ideal S1x256 .f32) (K : FVec Ideal S1x256x1024 .bf16) (gk : FVec Ideal S1x256 .f32)
    (X : FVec Ideal S1x256x1024 .bf16) (x0 : FVec Ideal S8x2048x1024 .f32) (x1 : FVec Ideal S1024 .f32) (x2 : FVec Ideal S1024x1024 .f32)
    (x3 : FVec Ideal S8x256x2048 .bf16) (x4 x5 : FVec Ideal S256 .f32) (h4 : ∀ z : Fin 256, IsReal (x4 (ix1 z))) (h5 : ∀ z : Fin 256, IsReal (x5 (ix1 z)))
    (b : Fin 8) (l : Fin 2048) (r : Fin 1024) (hp : ∀ j : Fin 1024, p (ix2 r j) = val_main_v14 (F := Ideal) x0 x1 x2 (ix3 b l j))
    (hq : ∀ z : Fin 256, gq (ix2 (0 : Fin 1) z) = x4 (ix1 z)) (hk : ∀ z : Fin 256, gk (ix2 (0 : Fin 1) z) = x5 (ix1 z))
    (hK : ∀ (x : Fin 256) (j : Fin 1024), K (ix3 (0 : Fin 1) x j) = x3 (ix3 b x ⟨j.val, by omega⟩))
    (hX : ∀ (x : Fin 256) (j : Fin 1024), X (ix3 (0 : Fin 1) x j) = x3 (ix3 b x ⟨1024 + j.val, by omega⟩)) (j : Fin 1024) :
    heads p gq K gk X (ix2 r j) = val_main_v62 (F := Ideal) x0 x1 x2 x3 x4 x5 (ix3 b l j) := by
  have hj : j.val < 1024 := j.isLt
  have T := head (fun z => val_main_v14 (F := Ideal) x0 x1 x2 (ix3 b l ⟨j.val / 256 * 256 + z.val, by omega⟩)) (fun z => x4 (ix1 z)) (fun z => x5 (ix1 z))
    (fun x z => x3 (ix3 b x ⟨j.val / 256 * 256 + z.val, by omega⟩)) (fun x => x3 (ix3 b x ⟨1024 + j.val, by omega⟩)) h4 h5
    (fun x => val_main_v48 (F := Ideal) x0 x1 x2 x3 x4 x5 (ix4 b ⟨j.val / 256, by omega⟩ l x))
    (fun x => by rw [score_at]; simp only [normQ_at, normK_at])
  rw [side_at, mix_at]
  refine Eq.trans ?_ (T.trans (Finset.sum_congr rfl fun x _ => ?_))
  · change over (qhead (fun z => p (ix2 r ⟨j.val / 256 * 256 + z.val, by omega⟩)) gq)
      (fun x => khead (fun z => K (ix3 (0 : Fin 1) x ⟨j.val / 256 * 256 + z.val, by omega⟩)) gk) (fun x => X (ix3 (0 : Fin 1) x j)) = _
    unfold qhead khead Cert.Reference5Ideal.XAttnRef.norm
    simp only [hp, hq, hk, hK, hX]
  · rw [weight_at, den_at, value_at]
    simp only [num_at, top_at]
    refine congrArg (· * _) (congrArg (fun k => x3 (ix3 b x k)) (Fin.ext ?_))
    dsimp only
    omega

/-- What a point stores at a row and a column is the reference's result there. -/
theorem point (c : Dev nD) (t : Fin cfg0.N)
    (h4 : ∀ z : Fin 256, IsReal ((m ((c : Thread nD τ).loc main_arg4) : FVec Ideal S256 .f32) (ix1 z)))
    (h5 : ∀ z : Fin 256, IsReal ((m ((c : Thread nD τ).loc main_arg5) : FVec Ideal S256 .f32) (ix1 z)))
    (b : Fin 8) (l : Fin 2048) (r j : Fin 1024) (hb : b.val = t.val / 2) (hl : l.val = t.val % 2 * 1024 + r.val) :
    k0_pay1 (F := Ideal) (k0_pay19 (k0_pay2 (iblk m c 0 t))
      (heads (k0_pay3 (iblk m c 0 t) (iblk m c 1 t) (iblk m c 2 t)) (iblk m c 5 t) (iblk m c 3 t) (iblk m c 6 t) (iblk m c 4 t)) (iblk m c 7 t))
      (ix3 (0 : Fin 1) r j)
    = val_main_v64 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix3 b l j) := by
  rw [out_at]
  refine (pay19_at _ _ _ r j).trans ?_
  refine congrArg₂ (· + ·) (blk0 m c t b l r hb hl j) (Finset.sum_congr rfl fun x _ => congrArg₂ (· * ·) ?_ (blk7 m c t x j))
  refine cell _ _ _ _ _ _ _ _ _ _ _ h4 h5 b l r (fun j => ?_) (blk5 m c t) (blk6 m c t) (blk3 m c t b hb) (blk4 m c t b hb) x
  refine (pay3_at _ _ _ r j).trans (Eq.trans ?_ (proj_at _ _ _ b l j).symm)
  unfold qproj
  simp only [blk0 m c t b l r hb hl, blk1 m c t, blk2 m c t]

/-- The result array after the run is the reference's result. -/
theorem final (c : Dev nD)
    (h4 : ∀ z : Fin 256, IsReal ((m ((c : Thread nD τ).loc main_arg4) : FVec Ideal S256 .f32) (ix1 z)))
    (h5 : ∀ z : Fin 256, IsReal ((m ((c : Thread nD τ).loc main_arg5) : FVec Ideal S256 .f32) (ix1 z))) :
    (dats m 0 c).arrAt 8 (cfgs 0).N
    = val_main_v64 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 8 _ (by decide +kernel) fun t hf y => ?_
  blk_simp
  rw [after0_8, stored m c t]
  have ht : t.val < 16 := lt_of_lt_of_eq t.isLt N_0
  have y1 : (y 1).val < 1024 := (y 1).isLt
  have hy : y = ix3 (0 : Fin 1) (y 1) (y 2) := by
    funext a; fin_cases a
    · exact Fin.ext (Nat.lt_one_iff.mp (y 0).isLt)
    · rfl
    · rfl
  have he : ((cfg0.win 8).blk t).view.emb y = ix3 (⟨t.val / 2, by omega⟩ : Fin 8) (⟨t.val % 2 * 1024 + (y 1).val, by omega⟩ : Fin 2048) (y 2) := by
    funext a; fin_cases a <;> apply Fin.ext <;> simp [idx t] <;> omega
  refine (congrArg _ hy).trans ((point m c t h4 h5 ⟨t.val / 2, by omega⟩ ⟨t.val % 2 * 1024 + (y 1).val, by omega⟩ (y 1) (y 2) rfl rfl).trans (congrArg _ he.symm))

end Cert.Kernel5Ideal.XAttnValue

end
-- ==== Proof.MemKV.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Claim
public import Idealize.ShloMosaic.Lib.Pointwise

/-! # The memory's keys and values: at the extended reals the kernel's result array is the reference's -/

@[expose] public section

set_option maxRecDepth 16384

noncomputable section

open Idealize.ShloMosaic Idealize.ShloMosaic.TcCoe Idealize.SL.Sem
open Idealize.ShloMosaic.Pipeline (Dat)

namespace Cert.Kernel6Ideal.MemKVValue

open Cert.Kernel6Ideal Cert.Kernel6Ideal.Gen Cert.Kernel6Ideal.Value
open Cert.Reference6Ideal.Read

variable (m : (ℓ : Loc nD τ sig) → Buf (Elt Ideal) ℓ)

/-- The block index of every window at grid point `t`: the memory's rows go by blocks of 1024, the weights are read whole. -/
theorem idx : ∀ t : Fin cfg0.N, win0_0.index t = ![t.val, 0] ∧ win0_1.index t = ![0, 0]
    ∧ win0_2.index t = ![0, 0, 0] ∧ win0_3.index t = ![t.val, 0] :=
  (by decide +kernel : ∀ t : Fin grid0.N, _)

/-- A point writes back the normalised rows of its block times the weights. -/
theorem stored (c : Dev nD) (t : Fin cfg0.N) :
    outsAt0 m c t = k0_pay2 (k0_pay1 (iblk m c 0 t) (iblk m c 1 t)) (iblk m c 2 t) := by
  unfold outsAt0
  frame_out

/-- What a point writes back, at a row and a column. -/
theorem product_at (a : FVec Ideal S1024x1024 .f32) (g : FVec Ideal S1x1024 .f32) (w : FVec Ideal S1x1024x2048 .bf16) (r : Fin 1024) (j : Fin 2048) :
    k0_pay2 (F := Ideal) (k0_pay1 (F := Ideal) a g) w (ix2 r j) = ∑ x : Fin 1024, a (ix2 r x) * Ideal.rsqrt (Ideal.div (∑ y : Fin 1024, a (ix2 r y) * a (ix2 r y))
      (Ideal.ofBits FTy.f32 1149239296#32) + Ideal.ofBits FTy.f32 897988541#32) * g (ix2 (0 : Fin 1) x) * w (ix3 (0 : Fin 1) x j) := by
  pointwise [k0_pay2, k0_pay1]

/-- The reference's keys and values, at a row and a column: the first 1024 columns are the keys. -/
theorem reference_at (x0 : FVec Ideal S2048x1024 .f32) (x1 : FVec Ideal S1024 .f32) (x2 x3 : FVec Ideal S2x1024x1024 .f32) (r j : Fin 2048) :
    val_main_v20 (F := Ideal) x0 x1 x2 x3 (ix2 r j)
      = ∑ x : Fin 1024, x0 (ix2 r x) * Ideal.rsqrt (Ideal.div (∑ y : Fin 1024, x0 (ix2 r y) * x0 (ix2 r y))
        (Ideal.ofBits FTy.f32 1149239296#32) + Ideal.ofBits FTy.f32 897988541#32) * x1 (ix1 x)
        * (if h : j.val < 1024 then x2 (ix3 (0 : Fin 2) x ⟨j.val, h⟩) else x3 (ix3 (0 : Fin 2) x ⟨j.val - 1024, by omega⟩)) := by
  by_cases h : j.val < 1024
  · simp only [dif_pos h]
    pointwise [val_main_v20, val_main_v19, val_main_v18, val_main_v17, val_main_v16, val_main_v15, val_main_v14, val_main_v13, val_main_v12,
      val_main_v11, val_main_v10, val_main_v9, val_main_v8, val_main_v7, val_main_v6, val_main_v5, val_main_v4, val_main_v3, val_main_v2,
      val_main_v1, val_main_v0, val_main_cst, val_main_cst_0, val_main_cst_1]
    simp only [dif_pos h]
  · simp only [dif_neg h]
    pointwise [val_main_v20, val_main_v19, val_main_v18, val_main_v17, val_main_v16, val_main_v15, val_main_v14, val_main_v13, val_main_v12,
      val_main_v11, val_main_v10, val_main_v9, val_main_v8, val_main_v7, val_main_v6, val_main_v5, val_main_v4, val_main_v3, val_main_v2,
      val_main_v1, val_main_v0, val_main_cst, val_main_cst_0, val_main_cst_1]
    simp only [dif_neg h]

/-- The joined weights of the first layer: the keys' columns, then the values'. -/
theorem joined (c : Dev nD) (x : Fin 1024) (j : Fin 2048) :
    (V m c main_v2 : FVec Ideal S2x1024x2048 .bf16) (ix3 (0 : Fin 2) x j)
      = if h : j.val < 1024 then (m ((c : Thread nD τ).loc main_arg2) : FVec Ideal S2x1024x1024 .f32) (ix3 (0 : Fin 2) x ⟨j.val, h⟩)
        else (m ((c : Thread nD τ).loc main_arg3) : FVec Ideal S2x1024x1024 .f32) (ix3 (0 : Fin 2) x ⟨j.val - 1024, by omega⟩) := by
  have e : (V m c main_v2 : FVec Ideal S2x1024x2048 .bf16)
      = concatenate S2x1024x2048 2 [⟨S2x1024x1024, V m c main_v0⟩, ⟨S2x1024x1024, V m c main_v1⟩] concatenates_S2x1024x1024_S2x1024x1024_S2x1024x2048_d2 := by
    unfold V
    after_results
  rw [e]
  pointwise
  split_ifs <;> (entry_read; pointwise)

/-- The weights that a point reads are all the joined ones. -/
theorem weights (c : Dev nD) (t : Fin cfg0.N) (x : Fin 1024) (j : Fin 2048) :
    iblk m c 2 t (ix3 (0 : Fin 1) x j) = (V m c main_v2 : FVec Ideal S2x1024x2048 .bf16) (ix3 (0 : Fin 2) x j) := by
  blk_point [iblk, idx t]

/-- The rows that a point reads. -/
theorem rows (c : Dev nD) (t : Fin cfg0.N) (l : Fin 2048) (r : Fin 1024) (hl : l.val = t.val * 1024 + r.val) (x : Fin 1024) :
    iblk m c 0 t (ix2 r x) = (m ((c : Thread nD τ).loc main_arg0) : FVec Ideal S2048x1024 .f32) (ix2 l x) := by
  blk_point [iblk, V, idx t]

/-- The gain that a point reads. -/
theorem gain (c : Dev nD) (t : Fin cfg0.N) (x : Fin 1024) :
    iblk m c 1 t (ix2 (0 : Fin 1) x) = (m ((c : Thread nD τ).loc main_arg1) : FVec Ideal S1024 .f32) (ix1 x) := by
  blk_point [iblk, V, idx t]

/-- The result array after the run is the reference's result. -/
theorem final (c : Dev nD) : (dats m 0 c).arrAt 3 (cfgs 0).N
    = val_main_v20 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t hf y => ?_
  blk_simp
  rw [after0_3, stored m c t]
  have ht : t.val < 2 := lt_of_lt_of_eq t.isLt N_0
  have y0 : (y 0).val < 1024 := (y 0).isLt
  have hy : y = ix2 (y 0) (y 1) := by funext a; fin_cases a <;> rfl
  have he : ((cfg0.win 3).blk t).view.emb y = ix2 (⟨t.val * 1024 + (y 0).val, by omega⟩ : Fin 2048) (y 1) := by
    funext a; fin_cases a <;> apply Fin.ext <;> simp [idx t]
  refine (congrArg _ hy).trans (Eq.trans ?_ (congrArg _ he.symm))
  refine (product_at _ _ _ (y 0) (y 1)).trans (Eq.trans ?_ (reference_at _ _ _ _ ⟨t.val * 1024 + (y 0).val, by omega⟩ (y 1)).symm)
  simp only [rows m c t ⟨t.val * 1024 + (y 0).val, by omega⟩ (y 0) rfl, gain m c t]
  exact Finset.sum_congr rfl fun x _ => congrArg (_ * ·) ((weights m c t x (y 1)).trans (joined m c x (y 1)))

end Cert.Kernel6Ideal.MemKVValue

end
-- ==== Proof.SConv.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Claim
public import Idealize.ShloMosaic.Lib.Pointwise

/-! # The short convolution: at the extended reals the kernel's result array is the reference's -/

@[expose] public section

set_option maxRecDepth 16384

noncomputable section

open Idealize.ShloMosaic Idealize.ShloMosaic.TcCoe Idealize.SL.Sem
open Idealize.ShloMosaic.Pipeline (Dat)

namespace Cert.Kernel7Ideal.SConvValue

open Cert.Kernel7Ideal Cert.Kernel7Ideal.Gen Cert.Kernel7Ideal.Value
open Cert.Reference7Ideal.Read

variable (m : (ℓ : Loc nD τ sig) → Buf (Elt Ideal) ℓ)

/-- The block index of every window at grid point `t`: three points run over one batch, one for each 512 columns. -/
theorem idx : ∀ t : Fin cfg0.N, win0_0.index t = ![t.val / 3, 0, 1 + t.val % 3] ∧ win0_1.index t = ![0, t.val % 3]
    ∧ win0_2.index t = ![t.val / 3, 0, t.val % 3] :=
  (by decide +kernel : ∀ t : Fin grid0.N, _)

/-- Three taps over the rows of a column, with zeros before the first row and after the last. -/
def taps (u : Fin 2048 → EReal) (w : Fin 3 → EReal) (l : Fin 2048) : EReal :=
  (if h : l.val = 0 then 0 else u ⟨l.val - 1, by omega⟩) * w 0 + u l * w 1
    + (if h : l.val = 2047 then 0 else u ⟨l.val + 1, by omega⟩) * w 2

/-- What a point stores, at a row and a column. -/
theorem pay_at (x : FVec Ideal S1x2048x512 .bf16) (w0 w1 w2 : FVec Ideal S1x512 .f32) (l : Fin 2048) (j : Fin 512) :
    k0_pay1 (F := Ideal) x w0 w1 w2 (ix3 (0 : Fin 1) l j)
      = taps (fun r => x (ix3 (0 : Fin 1) r j)) ![w0 (ix2 (0 : Fin 1) j), w1 (ix2 (0 : Fin 1) j), w2 (ix2 (0 : Fin 1) j)] l := by
  unfold taps
  pointwise [k0_pay1]
  have e0 : ∀ r : Fin 2048, IntOp.cmpi CmpIPredicate.eq (BitVec.ofNat 32 r.val) 0#32 = if r.val = 0 then 1#1 else 0#1 := by decide +kernel
  have e1 : ∀ r : Fin 2048, IntOp.cmpi CmpIPredicate.eq (BitVec.ofNat 32 r.val) 2047#32 = if r.val = 2047 then 1#1 else 0#1 := by decide +kernel
  rw [e0 l, e1 l]
  refine congrArg₂ (· + ·) (congrArg (· + _) ?_) ?_
  · by_cases h : l.val = 0
    · simp [h, Scalar.select]
    · have hr : (l.val + 2047) % 2048 = l.val - 1 := by omega
      simp [h, Scalar.select, hr]
  · by_cases h : l.val = 2047
    · simp [h, Scalar.select]
    · have hr : (l.val + 1) % 2048 = l.val + 1 := by omega
      simp [h, Scalar.select, hr]

/-- The padded columns, read at a row. -/
theorem padded (x : FVec Ideal S8x2048x7168 .bf16) (b : Fin 8) (l : Fin 2050) (j : Fin 1536) :
    val_main_v2 (F := Ideal) x (ix3 b l j) = if h : 1 ≤ l.val ∧ l.val < 2049 then x (ix3 b ⟨l.val - 1, by omega⟩ ⟨512 + j.val, by omega⟩) else 0 := by
  pointwise [val_main_v2, val_main_v1, val_main_v0, val_main_call0_v0, val_main_c]
  by_cases h : 1 ≤ l.val ∧ l.val < 2049
  · rw [dif_pos h, dif_pos ⟨h.1, by omega⟩]
  · rw [dif_neg h, dif_neg fun h' => h ⟨h'.1, by omega⟩]
    show ((((0#32 : BitVec 32).toInt : ℤ) : ℝ) : EReal) = 0
    simp

/-- The reference's result, at a row and a column. -/
theorem reference_at (x : FVec Ideal S8x2048x7168 .bf16) (w : FVec Ideal S3x1536 .f32) (b : Fin 8) (l : Fin 2048) (j : Fin 1536) :
    val_main_v23 (F := Ideal) x w (ix3 b l j)
      = taps (fun r => x (ix3 b r ⟨512 + j.val, by omega⟩)) (fun k => w (ix2 k j)) l := by
  unfold taps
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3]
  simp only [padded]
  refine congrArg₂ (· + ·) (congrArg₂ (· + ·) (congrArg (· * _) ?_) (congrArg (· * _) ?_)) (congrArg (· * _) ?_)
  · by_cases h : l.val = 0
    · rw [dif_pos h, dif_neg (by omega)]
    · rw [dif_neg h, dif_pos (by omega)]
  · rw [dif_pos (by omega)]
    exact congrArg (fun r => x (ix3 b r _)) (Fin.ext (by show 1 + l.val - 1 = l.val; omega))
  · by_cases h : l.val = 2047
    · rw [dif_pos h, dif_neg (by omega)]
    · rw [dif_neg h, dif_pos (by omega)]
      exact congrArg (fun r => x (ix3 b r _)) (Fin.ext (by show 2 + l.val - 1 = l.val + 1; omega))

/-- The rows that a point reads. -/
theorem rows (c : Dev nD) (t : Fin cfg0.N) (b : Fin 8) (hb : b.val = t.val / 3) (k : Fin 1536) (j : Fin 512)
    (hk : k.val = t.val % 3 * 512 + j.val) (r : Fin 2048) :
    iblk m c 0 t (ix3 (0 : Fin 1) r j)
      = (m ((c : Thread nD τ).loc main_arg0) : FVec Ideal S8x2048x7168 .bf16) (ix3 b r ⟨512 + k.val, by omega⟩) := by
  blk_point [iblk, V, idx t]

/-- The taps that a point reads. -/
theorem weights (c : Dev nD) (t : Fin cfg0.N) (k : Fin 1536) (j : Fin 512) (hk : k.val = t.val % 3 * 512 + j.val) (a : Fin 3) :
    iblk m c 1 t (ix2 a j) = (m ((c : Thread nD τ).loc main_arg1) : FVec Ideal S3x1536 .f32) (ix2 a k) := by
  blk_point [iblk, V, idx t]

/-- The result array after the run is the reference's result. -/
theorem final (c : Dev nD) : (dats m 0 c).arrAt 2 (cfgs 0).N
    = val_main_v23 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  have ht : t.val < 24 := lt_of_lt_of_eq t.isLt N_0
  have y2 : (y 2).val < 512 := (y 2).isLt
  have y0 : y 0 = (0 : Fin 1) := Subsingleton.elim (α := Fin 1) _ _
  have hy : y = ix3 (0 : Fin 1) (y 1) (y 2) := by
    funext a; fin_cases a
    · exact y0
    · rfl
    · rfl
  have he : ((cfg0.win 2).blk t).view.emb y
      = ix3 (⟨t.val / 3, by omega⟩ : Fin 8) (y 1) (⟨t.val % 3 * 512 + (y 2).val, by omega⟩ : Fin 1536) := by
    funext a; fin_cases a <;> apply Fin.ext <;> simp [idx t]
  refine (congrArg _ hy).trans (Eq.trans ?_ (congrArg _ he.symm))
  refine (pay_at _ _ _ _ (y 1) (y 2)).trans (Eq.trans ?_ (reference_at _ _ ⟨t.val / 3, by omega⟩ (y 1) ⟨t.val % 3 * 512 + (y 2).val, by omega⟩).symm)
  refine congrArg₂ (fun u w => taps u w (y 1)) (funext fun r => rows m c t _ rfl _ (y 2) rfl r) (funext fun a => ?_)
  refine Eq.trans ?_ (weights m c t _ (y 2) rfl a)
  have hz : ∀ n : Nat, 0 + 1 * n = n := fun n => (Nat.zero_add _).trans (Nat.one_mul n)
  match a with
  | ⟨0, _⟩ => exact congrArg (iblk m c 1 t) (funext fun d => Fin.ext (by match d with | ⟨0, _⟩ => rfl | ⟨1, _⟩ => exact hz _))
  | ⟨1, _⟩ => exact congrArg (iblk m c 1 t) (funext fun d => Fin.ext (by match d with | ⟨0, _⟩ => rfl | ⟨1, _⟩ => exact hz _))
  | ⟨2, _⟩ => exact congrArg (iblk m c 1 t) (funext fun d => Fin.ext (by match d with | ⟨0, _⟩ => rfl | ⟨1, _⟩ => exact hz _))

end Cert.Kernel7Ideal.SConvValue

end
-- ==== Proof.Gains.lean ====
module

public import proofs.«01_k».proof.Defs
public import proofs.«01_k».proof.Proof.AttnReal
public import proofs.«01_k».proof.Proof.Gen.Pre_finite_gains
public import proofs.«01_k».proof.Proof.Gen.Pre_finite_gains5
public import Idealize.ShloMosaic.Lib.Claim
public import Idealize.ShloMosaic.Lib.Pointwise

/-! # The preconditions read at the extended reals: a gain below infinity in size is a real number -/

@[expose] public section

noncomputable section

open Idealize.ShloMosaic

namespace Cert.Gains

open Cert.ReferenceIdeal.AttnRef (IsReal)

/-- The word of infinity. -/
theorem word_top : Ideal.ofBits FTy.f32 2139095040#32 = ⊤ := by
  simp [Ideal.ofBits, Ideal.ieee]

/-- An extended real whose size compares below infinity is a real number. -/
theorem real_of_flag (x : EReal)
    (h : BitVec.ofBool (decide (FloatOps.absf (F := Ideal) (φ := .f32) x < Ideal.ofBits FTy.f32 2139095040#32)) = 1#1) : IsReal x := by
  rw [word_top, Ideal.absf_def] at h
  induction x with
  | bot => simp at h
  | coe a => exact ⟨a, rfl⟩
  | top => simp at h

/-- The attention's precondition makes the queries' gain real. -/
theorem gain_q (a0 : FVec Ideal Cert.Pre_finite_gains.S8x2048x7168 .bf16) (a1 a2 : FVec Ideal Cert.Pre_finite_gains.S64 .f32)
    (h : (Cert.Pre_finite_gains.fn (F := Ideal) a0 a1 a2).1 = fun _ => 1#1) (d : Fin 64) : IsReal (a1 (ix1 d)) := by
  have := congrFun h (ix1 d)
  simp only [Cert.Pre_finite_gains.fn] at this
  pointwise at this
  exact real_of_flag _ this

/-- The attention's precondition makes the keys' gain real. -/
theorem gain_k (a0 : FVec Ideal Cert.Pre_finite_gains.S8x2048x7168 .bf16) (a1 a2 : FVec Ideal Cert.Pre_finite_gains.S64 .f32)
    (h : (Cert.Pre_finite_gains.fn (F := Ideal) a0 a1 a2).2 = fun _ => 1#1) (d : Fin 64) : IsReal (a2 (ix1 d)) := by
  have := congrFun h (ix1 d)
  simp only [Cert.Pre_finite_gains.fn] at this
  pointwise at this
  exact real_of_flag _ this

open Cert.Pre_finite_gains5 in
/-- The cross-attention's precondition makes the queries' gain real. -/
theorem gain_q5 (a0 : FVec Ideal S8x2048x1024 .f32) (a1 : FVec Ideal S1024 .f32) (a2 : FVec Ideal S1024x1024 .f32) (a3 : FVec Ideal S8x256x2048 .bf16)
    (a4 a5 : FVec Ideal S256 .f32) (a6 : FVec Ideal S1024x1024 .f32)
    (h : (fn (F := Ideal) a0 a1 a2 a3 a4 a5 a6).1 = fun _ => 1#1) (z : Fin 256) : IsReal (a4 (ix1 z)) := by
  have := congrFun h (ix1 z)
  simp only [fn] at this
  pointwise at this
  exact real_of_flag _ this

open Cert.Pre_finite_gains5 in
/-- The cross-attention's precondition makes the keys' gain real. -/
theorem gain_k5 (a0 : FVec Ideal S8x2048x1024 .f32) (a1 : FVec Ideal S1024 .f32) (a2 : FVec Ideal S1024x1024 .f32) (a3 : FVec Ideal S8x256x2048 .bf16)
    (a4 a5 : FVec Ideal S256 .f32) (a6 : FVec Ideal S1024x1024 .f32)
    (h : (fn (F := Ideal) a0 a1 a2 a3 a4 a5 a6).2 = fun _ => 1#1) (z : Fin 256) : IsReal (a5 (ix1 z)) := by
  have := congrFun h (ix1 z)
  simp only [fn] at this
  pointwise at this
  exact real_of_flag _ this

end Cert.Gains

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Pre_finite_gains
public import proofs.«01_k».proof.Proof.Gen.Pre_finite_gains5
public import proofs.«01_k».proof.Proof.Attn
public import proofs.«01_k».proof.Proof.Mlp
public import proofs.«01_k».proof.Proof.InProj
public import proofs.«01_k».proof.Proof.Merge
public import proofs.«01_k».proof.Proof.XAttn
public import proofs.«01_k».proof.Proof.MemKV
public import proofs.«01_k».proof.Proof.SConv
public import proofs.«01_k».proof.Proof.Gains
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The attention: the reference ends with nothing pending and its arguments as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention: over the extended reals, with finite gains, the kernel's array is the reference's. -/
theorem algebraic_KernelIdeal_ReferenceIdeal : algebraic_KernelIdeal_ReferenceIdeal_pre_finite_gains := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩)
    (Cert.ReferenceIdeal.Value.run (F := Ideal) m' ρ')
  obtain ⟨h0, h1, h2⟩ := hagree c
  refine (h c).1.trans ((Cert.ReferenceIdeal.Read.val_main_v124_eq (F := Ideal) ..).trans ?_)
  rw [h0, h1, h2]
  exact (Cert.KernelIdeal.AttnValue.final m c (Cert.Gains.gain_q _ _ _ (hpre c).1) (Cert.Gains.gain_k _ _ _ (hpre c).2)).symm

/-- The feed-forward part: the reference ends with nothing pending and its arguments as they were. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward part: over the extended reals the kernel's array is the reference's. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩)
    (Cert.Reference2Ideal.Value.run (F := Ideal) m' ρ')
  obtain ⟨h0, h1, h2, h3⟩ := hagree c
  refine (h c).1.trans ((Cert.Reference2Ideal.Read.val_main_v17_eq (F := Ideal) ..).trans ?_)
  rw [h0, h1, h2, h3]
  exact (Cert.Kernel2Ideal.MlpValue.final m c).symm

/-- The input projection: the reference ends with nothing pending and its arguments as they were. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The input projection: over the extended reals the kernel's array is the reference's. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩)
    (Cert.Reference3Ideal.Value.run (F := Ideal) m' ρ')
  obtain ⟨h0, h1, h2⟩ := hagree c
  refine (h c).1.trans ((Cert.Reference3Ideal.Read.val_main_v28_eq (F := Ideal) ..).trans ?_)
  rw [h0, h1, h2]
  exact (Cert.Kernel3Ideal.InProjValue.final m c).symm

/-- The gated merge: the reference ends with nothing pending and its arguments as they were. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gated merge: over the extended reals the kernel's array is the reference's. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩)
    (Cert.Reference4Ideal.Value.run (F := Ideal) m' ρ')
  obtain ⟨h0, h1, h2, h3, h4, h5, h6, h7, h8⟩ := hagree c
  refine (h c).1.trans ((Cert.Reference4Ideal.Read.val_main_v27_eq (F := Ideal) ..).trans ?_)
  rw [h0, h1, h2, h3, h4, h5, h6, h7, h8]
  exact (Cert.Kernel4Ideal.MergeValue.final m c).symm

/-- The cross-attention: the reference ends with nothing pending and its arguments as they were. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The cross-attention: over the extended reals, with finite gains, the kernel's array is the reference's. -/
theorem algebraic_Kernel5Ideal_Reference5Ideal : algebraic_Kernel5Ideal_Reference5Ideal_pre_finite_gains5 := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩)
    (Cert.Reference5Ideal.Value.run (F := Ideal) m' ρ')
  obtain ⟨h0, h1, h2, h3, h4, h5, h6⟩ := hagree c
  refine (h c).1.trans ((Cert.Reference5Ideal.Read.val_main_v64_eq (F := Ideal) ..).trans ?_)
  rw [h0, h1, h2, h3, h4, h5, h6]
  exact (Cert.Kernel5Ideal.XAttnValue.final m c (Cert.Gains.gain_q5 _ _ _ _ _ _ _ (hpre c).1)
    (Cert.Gains.gain_k5 _ _ _ _ _ _ _ (hpre c).2)).symm

/-- The memory's keys and values: the reference ends with nothing pending and its arguments as they were. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The memory's keys and values: over the extended reals the kernel's array is the reference's. -/
theorem algebraic_Kernel6Ideal_Reference6Ideal : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩)
    (Cert.Reference6Ideal.Value.run (F := Ideal) m' ρ')
  obtain ⟨h0, h1, h2, h3⟩ := hagree c
  refine (h c).1.trans ((Cert.Reference6Ideal.Read.val_main_v20_eq (F := Ideal) ..).trans ?_)
  rw [h0, h1, h2, h3]
  exact (Cert.Kernel6Ideal.MemKVValue.final m c).symm

/-- The short convolution: the reference ends with nothing pending and its arguments as they were. -/
theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The short convolution: over the extended reals the kernel's array is the reference's. -/
theorem algebraic_Kernel7Ideal_Reference7Ideal : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩)
    (Cert.Reference7Ideal.Value.run (F := Ideal) m' ρ')
  obtain ⟨h0, h1⟩ := hagree c
  refine (h c).1.trans ((Cert.Reference7Ideal.Read.val_main_v23_eq (F := Ideal) ..).trans ?_)
  rw [h0, h1]
  exact (Cert.Kernel7Ideal.SConvValue.final m c).symm

/-- Everything claimed: for each call both frames, the reference's frame, what idealizing kept, and the two arrays' equality. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_gains.Gen.facts, Cert.Pre_finite_gains5.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ,
  quiescent_Reference2Ideal,
  fun m ρ _ => Cert.Kernel3.Gen.frame m ρ, fun m ρ _ => Cert.Kernel3Ideal.Gen.frame m ρ,
  quiescent_Reference3Ideal,
  fun m ρ _ => Cert.Kernel4.Gen.frame m ρ, fun m ρ _ => Cert.Kernel4Ideal.Gen.frame m ρ,
  quiescent_Reference4Ideal,
  fun m ρ _ => Cert.Kernel5.Gen.frame m ρ, fun m ρ _ => Cert.Kernel5Ideal.Gen.frame m ρ, fun m ρ _ => Cert.Kernel5Ideal.Gen.frame m ρ,
  quiescent_Reference5Ideal, fun m ρ _ => quiescent_Reference5Ideal m ρ trivial,
  fun m ρ _ => Cert.Kernel6.Gen.frame m ρ, fun m ρ _ => Cert.Kernel6Ideal.Gen.frame m ρ,
  quiescent_Reference6Ideal,
  fun m ρ _ => Cert.Kernel7.Gen.frame m ρ, fun m ρ _ => Cert.Kernel7Ideal.Gen.frame m ρ,
  quiescent_Reference7Ideal,
  IdealRules.named_const.statement Cert.KernelIdeal.κ "scale_log2e" .f32 0x3E38AA3B#32 (((8 * Real.log 2)⁻¹ : ℝ) : EReal) rfl,
  algebraic_KernelIdeal_ReferenceIdeal,
  trivial, algebraic_Kernel2Ideal_Reference2Ideal,
  trivial, algebraic_Kernel3Ideal_Reference3Ideal,
  trivial, algebraic_Kernel4Ideal_Reference4Ideal,
  trivial, algebraic_Kernel5Ideal_Reference5Ideal,
  trivial, algebraic_Kernel6Ideal_Reference6Ideal,
  trivial, algebraic_Kernel7Ideal_Reference7Ideal⟩

end Cert.Proof

end
